-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x256 : Shape := ⟨2, ![65536, 256]⟩
abbrev S16777216 : Shape := ⟨1, ![16777216]⟩
abbrev S16384 : Shape := ⟨1, ![16384]⟩
abbrev S_ : Shape := ⟨0, ![]⟩
abbrev S16 : Shape := ⟨1, ![16]⟩

abbrev nBuf : Table → Nat
  | .hbm => 4
  | .local .scVector .vmem => 4
  | _ => 0

abbrev bufTy : (tb : Table) → Fin (nBuf tb) → BufTy
  | .hbm, ⟨0, _⟩ => ⟨S65536x256, .f32⟩
  | .hbm, ⟨1, _⟩ => ⟨S16777216, .f32⟩
  | .hbm, ⟨2, _⟩ => ⟨S16777216, .f32⟩
  | .hbm, ⟨3, _⟩ => ⟨S65536x256, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | _, _ => ⟨S65536x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v3 : BitVec 32 := Scalar.addi v2 c0_i32
  ![v3.toNat]
def k0_off1_at (r : Fin 4) : BitVec 32 :=
  if r.val < 2 then
    if r.val < 1 then
      0#32
    else
      16384#32
  else
    if r.val < 3 then
      491520#32
    else
      507904#32
@[reducible] def k0_t1_loop : Scf.Loop 32 :=
  let c0_i32_1 : BitVec 32 := 0#32
  let c16_i32 : BitVec 32 := 16#32
  let v9 : BitVec 32 := Scalar.addi c0_i32_1 c16_i32
  let c1_i32 : BitVec 32 := 1#32
  ⟨c0_i32_1, v9, c1_i32⟩
def k0_off2 (i : grid0.Coords) (k0_t1 : Fin k0_t1_loop.trips) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_1 : BitVec 32 := 0#32
  let c1_i32 : BitVec 32 := 1#32
  let arg12 : BitVec 32 := Scf.iv c0_i32_1 c1_i32 k0_t1
  let c2_i32_3 : BitVec 32 := 2#32
  let v16 : BitVec 32 := Scalar.muli arg12 c2_i32_3
  let v17 : BitVec 32 := Scalar.addi v16 c0_i32_4
  let c16384_i32_5 : BitVec 32 := 16384#32
  let v18 : BitVec 32 := Scalar.muli v17 c16384_i32_5
  let v19 : BitVec 32 := Scalar.addi v2 v18
  ![v19.toNat]
def k0_cond1 (k0_t1 : Fin k0_t1_loop.trips) : BitVec 1 :=
  let c0_i32_1 : BitVec 32 := 0#32
  let c1_i32 : BitVec 32 := 1#32
  let arg12 : BitVec 32 := Scf.iv c0_i32_1 c1_i32 k0_t1
  let c2_i32_3 : BitVec 32 := 2#32
  let v16 : BitVec 32 := Scalar.muli arg12 c2_i32_3
  let c0_i32_6 : BitVec 32 := 0#32
  let v22 : BitVec 1 := Scalar.cmpi .sgt v16 c0_i32_6
  let v23 : BitVec 32 := Scalar.extui v22
  let c0_i32_7 : BitVec 32 := 0#32
  let v24 : BitVec 1 := Scalar.cmpi .ne v23 c0_i32_7
  v24

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_1 : BitVec 32 := 0#32
  let c1_i32 : BitVec 32 := 1#32
  let arg12 : BitVec 32 := Scf.iv c0_i32_1 c1_i32 k0_t1
  let c2_i32_3 : BitVec 32 := 2#32
  let v16 : BitVec 32 := Scalar.muli arg12 c2_i32_3
  let c0_i32_4 : BitVec 32 := 0#32
  let v17 : BitVec 32 := Scalar.addi v16 c0_i32_4
  let c16384_i32_5 : BitVec 32 := 16384#32
  let v18 : BitVec 32 := Scalar.muli v17 c16384_i32_5
  let v19 : BitVec 32 := Scalar.addi v2 v18
  ![v19.toNat]
@[reducible] def k0_t2_loop : Scf.Loop 32 :=
  let c0_i32_9 : BitVec 32 := 0#32
  let c128_i32 : BitVec 32 := 128#32
  let v25 : BitVec 32 := Scalar.addi c0_i32_9 c128_i32
  let c1_i32_10 : BitVec 32 := 1#32
  ⟨c0_i32_9, v25, c1_i32_10⟩
def k0_off4 (k0_t2 : Fin k0_t2_loop.trips) (c0_i32_32 : BitVec 32) : Fin 1 → Nat :=
  let c0_i32_9 : BitVec 32 := 0#32
  let c1_i32_10 : BitVec 32 := 1#32
  let arg13 : BitVec 32 := Scf.iv c0_i32_9 c1_i32_10 k0_t2
  let c128_i32_31 : BitVec 32 := 128#32
  let v54 : BitVec 32 := Scalar.muli arg13 c128_i32_31
  let v55 : BitVec 32 := Scalar.addi v54 c0_i32_32
  let v56 : Index := Scalar.indexCast v55
  ![v56.toNat]
def k0_cond3 (k0_t1 : Fin k0_t1_loop.trips) : BitVec 1 :=
  let c0_i32_1 : BitVec 32 := 0#32
  let c1_i32 : BitVec 32 := 1#32
  let arg12 : BitVec 32 := Scf.iv c0_i32_1 c1_i32 k0_t1
  let c2_i32_3 : BitVec 32 := 2#32
  let v16 : BitVec 32 := Scalar.muli arg12 c2_i32_3
  let c0_i32_15 : BitVec 32 := 0#32
  let v33 : BitVec 32 := Scalar.addi v16 c0_i32_15
  let c2_i32_16 : BitVec 32 := 2#32
  let v34 : BitVec 32 := Scalar.addi v33 c2_i32_16
  let c32_i32 : BitVec 32 := 32#32
  let v35 : BitVec 1 := Scalar.cmpi .slt v34 c32_i32
  let v36 : BitVec 32 := Scalar.extui v35
  let c0_i32_17 : BitVec 32 := 0#32
  let v37 : BitVec 1 := Scalar.cmpi .ne v36 c0_i32_17
  v37

def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_1 : BitVec 32 := 0#32
  let c1_i32 : BitVec 32 := 1#32
  let arg12 : BitVec 32 := Scf.iv c0_i32_1 c1_i32 k0_t1
  let c2_i32_3 : BitVec 32 := 2#32
  let v16 : BitVec 32 := Scalar.muli arg12 c2_i32_3
  let c0_i32_31 : BitVec 32 := 0#32
  let v54 : BitVec 32 := Scalar.addi v16 c0_i32_31
  let c2_i32_32 : BitVec 32 := 2#32
  let v55 : BitVec 32 := Scalar.addi v54 c2_i32_32
  let c16384_i32_33 : BitVec 32 := 16384#32
  let v56 : BitVec 32 := Scalar.muli v55 c16384_i32_33
  let v57 : BitVec 32 := Scalar.addi v2 v56
  ![v57.toNat]
def k0_cond4 (k0_t1 : Fin k0_t1_loop.trips) : BitVec 1 :=
  let c0_i32_1 : BitVec 32 := 0#32
  let c1_i32 : BitVec 32 := 1#32
  let arg12 : BitVec 32 := Scf.iv c0_i32_1 c1_i32 k0_t1
  let c2_i32_3 : BitVec 32 := 2#32
  let v16 : BitVec 32 := Scalar.muli arg12 c2_i32_3
  let c0_i32_20 : BitVec 32 := 0#32
  let v43 : BitVec 1 := Scalar.cmpi .sgt v16 c0_i32_20
  let v44 : BitVec 32 := Scalar.extui v43
  let c0_i32_21 : BitVec 32 := 0#32
  let v45 : BitVec 1 := Scalar.cmpi .ne v44 c0_i32_21
  v45

def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_1 : BitVec 32 := 0#32
  let c1_i32 : BitVec 32 := 1#32
  let arg12 : BitVec 32 := Scf.iv c0_i32_1 c1_i32 k0_t1
  let c2_i32_3 : BitVec 32 := 2#32
  let v16 : BitVec 32 := Scalar.muli arg12 c2_i32_3
  let c1_i32_18 : BitVec 32 := 1#32
  let v38 : BitVec 32 := Scalar.addi v16 c1_i32_18
  let c16384_i32_19 : BitVec 32 := 16384#32
  let v39 : BitVec 32 := Scalar.muli v38 c16384_i32_19
  let v40 : BitVec 32 := Scalar.addi v2 v39
  ![v40.toNat]
@[reducible] def k0_t3_loop : Scf.Loop 32 :=
  let c0_i32_23 : BitVec 32 := 0#32
  let c128_i32_24 : BitVec 32 := 128#32
  let v46 : BitVec 32 := Scalar.addi c0_i32_23 c128_i32_24
  let c1_i32_25 : BitVec 32 := 1#32
  ⟨c0_i32_23, v46, c1_i32_25⟩
def k0_off7 (k0_t3 : Fin k0_t3_loop.trips) (c0_i32_32 : BitVec 32) : Fin 1 → Nat :=
  let c0_i32_23 : BitVec 32 := 0#32
  let c1_i32_25 : BitVec 32 := 1#32
  let arg13 : BitVec 32 := Scf.iv c0_i32_23 c1_i32_25 k0_t3
  let c128_i32_31 : BitVec 32 := 128#32
  let v54 : BitVec 32 := Scalar.muli arg13 c128_i32_31
  let v55 : BitVec 32 := Scalar.addi v54 c0_i32_32
  let v56 : Index := Scalar.indexCast v55
  ![v56.toNat]
def k0_cond5 (k0_t1 : Fin k0_t1_loop.trips) : BitVec 1 :=
  let c0_i32_1 : BitVec 32 := 0#32
  let c1_i32 : BitVec 32 := 1#32
  let arg12 : BitVec 32 := Scf.iv c0_i32_1 c1_i32 k0_t1
  let c2_i32_3 : BitVec 32 := 2#32
  let v16 : BitVec 32 := Scalar.muli arg12 c2_i32_3
  let c1_i32_27 : BitVec 32 := 1#32
  let v49 : BitVec 32 := Scalar.addi v16 c1_i32_27
  let c2_i32_28 : BitVec 32 := 2#32
  let v50 : BitVec 32 := Scalar.addi v49 c2_i32_28
  let c32_i32_29 : BitVec 32 := 32#32
  let v51 : BitVec 1 := Scalar.cmpi .slt v50 c32_i32_29
  let v52 : BitVec 32 := Scalar.extui v51
  let c0_i32_30 : BitVec 32 := 0#32
  let v53 : BitVec 1 := Scalar.cmpi .ne v52 c0_i32_30
  v53

def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_1 : BitVec 32 := 0#32
  let c1_i32 : BitVec 32 := 1#32
  let arg12 : BitVec 32 := Scf.iv c0_i32_1 c1_i32 k0_t1
  let c2_i32_3 : BitVec 32 := 2#32
  let v16 : BitVec 32 := Scalar.muli arg12 c2_i32_3
  let c1_i32_31 : BitVec 32 := 1#32
  let v54 : BitVec 32 := Scalar.addi v16 c1_i32_31
  let c2_i32_32 : BitVec 32 := 2#32
  let v55 : BitVec 32 := Scalar.addi v54 c2_i32_32
  let c16384_i32_33 : BitVec 32 := 16384#32
  let v56 : BitVec 32 := Scalar.muli v55 c16384_i32_33
  let v57 : BitVec 32 := Scalar.addi v2 v56
  ![v57.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x256 : Shape := ⟨2, ![65536, 256]⟩
abbrev S_ : Shape := ⟨0, ![]⟩
abbrev S256 : Shape := ⟨1, ![256]⟩
abbrev S1 : Shape := ⟨1, ![1]⟩

abbrev nBuf : Space → Nat
  | .hbm => 9
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S_, .f32⟩
  | .hbm, ⟨2, _⟩ => ⟨S256, .f32⟩
  | .hbm, ⟨3, _⟩ => ⟨S_, .i32⟩
  | .hbm, ⟨4, _⟩ => ⟨S1, .i32⟩
  | .hbm, ⟨5, _⟩ => ⟨S65536x256, .f32⟩
  | .hbm, ⟨6, _⟩ => ⟨S_, .f32⟩
  | .hbm, ⟨7, _⟩ => ⟨S65536x256, .f32⟩
  | .hbm, ⟨8, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Common.lean ====
/-
  What the modules of this proof share. The kernel adds one to every element of a flat array of 16777216 floats and
  leaves 2.0 at elements 256 to 511. Thirty-two tiles (two SparseCores of sixteen) each own 524288 consecutive
  elements, worked through in thirty-two chunks of 16384. Here: the arrays' places, the element sets of a SparseCore, of
  a tile and of a chunk, the value the result ends with, and what a chunk's slice of either array reads and writes.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.AddOne

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds library beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The argument, its flat copy, the kernel's flat result and the result, on device `d`. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- Flat contents: what the two flat arrays hold; and a chunk's contents: what a tile's buffer holds. -/
abbrev Flat (F : FTy → Type) : Type := S16777216.Idx → F .f32
abbrev Chunk (F : FTy → Type) : Type := S16384.Idx → F .f32

/-- The two flat arrays and the four buffers as a tile addresses them. -/
abbrev xV : Memref sig .scVector .hbm S16777216 .f32 := Memref.whole main_v0_scv
abbrev oV : Memref sig .scVector .hbm S16777216 .f32 := Memref.whole main_v1_scv
abbrev inA : Memref sig .scVector .vmem S16384 .f32 := Memref.whole cc0_scratch0
abbrev inB : Memref sig .scVector .vmem S16384 .f32 := Memref.whole cc0_scratch1
abbrev outA : Memref sig .scVector .vmem S16384 .f32 := Memref.whole cc0_scratch2
abbrev outB : Memref sig .scVector .vmem S16384 .f32 := Memref.whole cc0_scratch3

/-- The SparseCore and the tile of a pair of coordinates, as a thread of device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## Element sets -/

/-- The elements from `b` on, `16384` of them: a chunk. -/
def seg (b : ℕ) : Finset S16777216.Idx := Finset.univ.filter fun i => b ≤ (i 0).val ∧ (i 0).val < b + 16384
/-- Tile `n`'s elements, counting tiles in the order of their elements. -/
def tileSet (n : ℕ) : Finset S16777216.Idx := Finset.univ.filter fun i => (i 0).val / 524288 = n
/-- SparseCore `c`'s elements: those of its sixteen tiles. -/
def coreSet (c : ℕ) : Finset S16777216.Idx := Finset.univ.filter fun i => (i 0).val / 524288 % 2 = c

/-- An element is in the chunk from `b` on if its number is one of the 16384 from `b` on. -/
theorem mem_seg {b : ℕ} {i : S16777216.Idx} : i ∈ seg b ↔ b ≤ (i 0).val ∧ (i 0).val < b + 16384 := by simp [seg]
/-- An element is tile `n`'s if its number lies in the `n`-th run of 524288. -/
theorem mem_tileSet {n : ℕ} {i : S16777216.Idx} : i ∈ tileSet n ↔ (i 0).val / 524288 = n := by simp [tileSet]
/-- An element is SparseCore `c`'s if the number of its tile has the parity `c`. -/
theorem mem_coreSet {c : ℕ} {i : S16777216.Idx} : i ∈ coreSet c ↔ (i 0).val / 524288 % 2 = c := by simp [coreSet]

/-- A flat array has 16777216 elements. -/
theorem lt_size (i : S16777216.Idx) : (i 0).val < 16777216 := (i 0).isLt
/-- A chunk has 16384 elements. -/
theorem lt_chunk (j : S16384.Idx) : (j 0).val < 16384 := (j 0).isLt
/-- There are two SparseCores. -/
theorem coord0_lt (L : grid0.Coords) : (L 0).val < 2 := (L 0).isLt
/-- Each has sixteen tiles. -/
theorem coord1_lt (L : grid0.Coords) : (L 1).val < 16 := (L 1).isLt

/-- The number of the tile at coordinates `L`. -/
def tileNo (L : grid0.Coords) : ℕ := 2 * (L 1).val + (L 0).val
/-- Where chunk `p` of the tile at coordinates `L` begins. -/
def cb (L : grid0.Coords) (p : ℕ) : ℕ := 1048576 * (L 1).val + 524288 * (L 0).val + 16384 * p

/-- A tile's elements are its thirty-two chunks'. -/
theorem tileSet_chunks (L : grid0.Coords) : (Finset.range 32).biUnion (fun p => seg (cb L p)) = tileSet (tileNo L) := by
  ext i
  simp only [Finset.mem_biUnion, Finset.mem_range, mem_seg, mem_tileSet, cb, tileNo]
  constructor
  · rintro ⟨p, hp, h⟩; omega
  · intro h; exact ⟨(i 0).val % 524288 / 16384, by omega, by omega⟩

/-- No two chunks of a tile share an element. -/
theorem chunks_disjoint (L : grid0.Coords) : ∀ p ∈ Finset.range 32, ∀ p' ∈ Finset.range 32, p ≠ p' → Disjoint (seg (cb L p)) (seg (cb L p')) := by
  intro p _ p' _ h
  rw [Finset.disjoint_left]
  intro i hi hi'
  rw [mem_seg, cb] at hi hi'
  omega

/-- A SparseCore's elements are its sixteen tiles'; all the elements are the two SparseCores'. -/
theorem coreSet_tiles (c : ℕ) (hc : c < 2) : (Finset.univ : Finset (Fin 16)).biUnion (fun s => tileSet (2 * s.val + c)) = coreSet c := by
  ext i
  simp only [Finset.mem_biUnion, Finset.mem_univ, true_and, mem_tileSet, mem_coreSet]
  constructor
  · rintro ⟨p, h⟩; omega
  · intro h
    have := lt_size i
    exact ⟨⟨(i 0).val / 1048576, by omega⟩, by show _ = 2 * ((i 0).val / 1048576) + c; omega⟩

/-- No two tiles of a SparseCore share an element. -/
theorem tiles_disjoint (c : ℕ) : ∀ s ∈ (Finset.univ : Finset (Fin 16)), ∀ s' ∈ (Finset.univ : Finset (Fin 16)), s ≠ s' →
    Disjoint (tileSet (2 * s.val + c)) (tileSet (2 * s'.val + c)) := by
  intro s _ s' _ h
  rw [Finset.disjoint_left]
  intro i hi hi'
  rw [mem_tileSet] at hi hi'
  exact h (Fin.ext (by omega))

/-- The two SparseCores' elements are all the elements. -/
theorem cores_cover : (Finset.univ : Finset (Fin 2)).biUnion (fun c => coreSet c.val) = Finset.univ := by
  ext i
  simp only [Finset.mem_biUnion, Finset.mem_univ, true_and, mem_coreSet, iff_true]
  exact ⟨⟨(i 0).val / 524288 % 2, by omega⟩, rfl⟩

/-- The two SparseCores share no element. -/
theorem cores_disjoint : ∀ c ∈ (Finset.univ : Finset (Fin 2)), ∀ c' ∈ (Finset.univ : Finset (Fin 2)), c ≠ c' →
    Disjoint (coreSet c.val) (coreSet c'.val) := by
  intro c _ c' _ h
  rw [Finset.disjoint_left]
  intro i hi hi'
  rw [mem_coreSet] at hi hi'
  exact h (Fin.ext (by omega))

attribute [irreducible] seg tileSet coreSet

section Arrays

variable (d : Dev nD)

/-- The flat argument over a tile's elements is the argument over each of its chunks. -/
theorem x_chunks (L : grid0.Coords) (f : Buf (Elt F) (xLoc d)) :
    (xLoc d ↦[tileSet (tileNo L)]{fullShare} f : sProp 𝕄) = bigSep (Finset.range 32) fun p => xLoc d ↦[seg (cb L p)]{fullShare} f := by
  rw [← pointsTo_biUnion (Finset.range 32) (ℓ := xLoc d) (fun p => seg (cb L p)) (chunks_disjoint L)]
  exact congrArg (fun J : Finset S16777216.Idx => (xLoc d ↦[J]{fullShare} f : sProp 𝕄)) (tileSet_chunks L).symm
/-- The same of the flat result. -/
theorem o_chunks (L : grid0.Coords) (f : Buf (Elt F) (oLoc d)) :
    (oLoc d ↦[tileSet (tileNo L)]{fullShare} f : sProp 𝕄) = bigSep (Finset.range 32) fun p => oLoc d ↦[seg (cb L p)]{fullShare} f := by
  rw [← pointsTo_biUnion (Finset.range 32) (ℓ := oLoc d) (fun p => seg (cb L p)) (chunks_disjoint L)]
  exact congrArg (fun J : Finset S16777216.Idx => (oLoc d ↦[J]{fullShare} f : sProp 𝕄)) (tileSet_chunks L).symm

/-- The flat argument over a SparseCore's elements is the argument over each of its tiles'. -/
theorem x_tiles (c : ℕ) (hc : c < 2) (f : Buf (Elt F) (xLoc d)) :
    (xLoc d ↦[coreSet c]{fullShare} f : sProp 𝕄) = bigSep Finset.univ fun s : Fin 16 => xLoc d ↦[tileSet (2 * s.val + c)]{fullShare} f := by
  rw [← pointsTo_biUnion Finset.univ (ℓ := xLoc d) (fun s : Fin 16 => tileSet (2 * s.val + c)) (tiles_disjoint c)]
  exact congrArg (fun J : Finset S16777216.Idx => (xLoc d ↦[J]{fullShare} f : sProp 𝕄)) (coreSet_tiles c hc).symm
/-- The same of the flat result. -/
theorem o_tiles (c : ℕ) (hc : c < 2) (f : Buf (Elt F) (oLoc d)) :
    (oLoc d ↦[coreSet c]{fullShare} f : sProp 𝕄) = bigSep Finset.univ fun s : Fin 16 => oLoc d ↦[tileSet (2 * s.val + c)]{fullShare} f := by
  rw [← pointsTo_biUnion Finset.univ (ℓ := oLoc d) (fun s : Fin 16 => tileSet (2 * s.val + c)) (tiles_disjoint c)]
  exact congrArg (fun J : Finset S16777216.Idx => (oLoc d ↦[J]{fullShare} f : sProp 𝕄)) (coreSet_tiles c hc).symm

/-- The whole flat argument is the argument over each SparseCore's elements. -/
theorem x_cores (f : Buf (Elt F) (xLoc d)) :
    (xLoc d ↦{fullShare} f : sProp 𝕄) = bigSep Finset.univ fun c : Fin 2 => xLoc d ↦[coreSet c.val]{fullShare} f := by
  rw [← pointsTo_biUnion Finset.univ (ℓ := xLoc d) (fun c : Fin 2 => coreSet c.val) cores_disjoint]
  exact congrArg (fun J : Finset S16777216.Idx => (xLoc d ↦[J]{fullShare} f : sProp 𝕄)) cores_cover.symm
/-- The same of the flat result. -/
theorem o_cores (f : Buf (Elt F) (oLoc d)) :
    (oLoc d ↦{fullShare} f : sProp 𝕄) = bigSep Finset.univ fun c : Fin 2 => oLoc d ↦[coreSet c.val]{fullShare} f := by
  rw [← pointsTo_biUnion Finset.univ (ℓ := oLoc d) (fun c : Fin 2 => coreSet c.val) cores_disjoint]
  exact congrArg (fun J : Finset S16777216.Idx => (oLoc d ↦[J]{fullShare} f : sProp 𝕄)) cores_cover.symm

end Arrays

/-! ## The value -/

variable [FloatOps F]

/-- A float and one: what the kernel stores for every element it reads. -/
def inc (x : F .f32) : F .f32 := FloatOps.addf x (Scalar.ofBits .f32 0x3F800000#32)
/-- The constant of row 1. -/
def two : F .f32 := Scalar.ofBits .f32 0x40000000#32
/-- The flat result: 2.0 on row 1 (elements 256 to 511), elsewhere the argument and one. -/
def outVal (x : Flat F) : Flat F := fun i => if 256 ≤ (i 0).val ∧ (i 0).val < 512 then two else inc (x i)

/-- A buffer holds `x` from element `b` on. -/
def Holds (x : Flat F) (b : ℕ) (f : Chunk F) : Prop := ∀ (j : S16384.Idx) (i : S16777216.Idx), (i 0).val = b + (j 0).val → f j = x i

/-! ## A chunk's slice of a flat array -/

/-- The slice of the flat argument, and of the flat result, at offsets `off`. -/
abbrev xSl (off : Fin 1 → ℕ) (h : ∀ a, off a + S16384.size a ≤ S16777216.size a) : Memref sig .scVector .hbm S16384 .f32 :=
  xV.slice (Rect.unit (s := S16777216) off S16384.size h) (fun _ => rfl)
abbrev oSl (off : Fin 1 → ℕ) (h : ∀ a, off a + S16384.size a ≤ S16777216.size a) : Memref sig .scVector .hbm S16384 .f32 :=
  oV.slice (Rect.unit (s := S16777216) off S16384.size h) (fun _ => rfl)

omit [FloatOps F] in
/-- A unit-stride rectangle of a chunk's size at offset `b` is the chunk from `b` on. -/
theorem rect_seg (off : Fin 1 → ℕ) (h : ∀ a, off a + S16384.size a ≤ S16777216.size a) (b : ℕ) (e : off = ![b]) :
    (Rect.unit (s := S16777216) off S16384.size h).set = seg b := by
  subst e
  ext i
  rw [Rect.mem_set_unit, mem_seg]
  constructor
  · intro H; exact H 0
  · intro H a; rw [Fin.fin_one_eq_zero a]; exact H

omit [FloatOps F] in
/-- The elements of a slice of the flat argument are the chunk at its offset. -/
theorem set_xSl (off : Fin 1 → ℕ) (h) (b : ℕ) (e : off = ![b]) : (xSl off h).view.set = seg b := by
  show ((View.whole (main_v0_scv : Ref sig .scVector)).slice _).set = _
  rw [View.set_slice_whole]; exact rect_seg off h b e
omit [FloatOps F] in
/-- The same of the flat result. -/
theorem set_oSl (off : Fin 1 → ℕ) (h) (b : ℕ) (e : off = ![b]) : (oSl off h).view.set = seg b := by
  show ((View.whole (main_v1_scv : Ref sig .scVector)).slice _).set = _
  rw [View.set_slice_whole]; exact rect_seg off h b e

omit [FloatOps F] in
/-- Where element `j` of a slice lies in the array. -/
theorem emb_xSl (off : Fin 1 → ℕ) (h) (b : ℕ) (e : off = ![b]) (j : S16384.Idx) : ((xSl off h).view.emb j 0).val = b + (j 0).val := by
  subst e
  show (((Rect.unit (s := S16777216) _ S16384.size h).emb j 0 : Fin _) : ℕ) = _
  rw [Rect.emb_apply]; show b + 1 * (j 0).val = _; omega
omit [FloatOps F] in
/-- The same of the flat result. -/
theorem emb_oSl (off : Fin 1 → ℕ) (h) (b : ℕ) (e : off = ![b]) (j : S16384.Idx) : ((oSl off h).view.emb j 0).val = b + (j 0).val := by
  subst e
  show (((Rect.unit (s := S16777216) _ S16384.size h).emb j 0 : Fin _) : ℕ) = _
  rw [Rect.emb_apply]; show b + 1 * (j 0).val = _; omega

omit [FloatOps F] in
/-- An index of a flat array is its number. -/
theorem flat_ext {i i' : S16777216.Idx} (h : (i 0).val = (i' 0).val) : i = i' := by
  funext a; rw [Fin.fin_one_eq_zero a]; exact Fin.ext h
omit [FloatOps F] in
/-- An index of a chunk is its number. -/
theorem chunk_ext {i i' : S16384.Idx} (h : (i 0).val = (i' 0).val) : i = i' := by
  funext a; rw [Fin.fin_one_eq_zero a]; exact Fin.ext h

omit [FloatOps F] in
/-- What a slice of the argument reads is the argument from the slice's first element on. -/
theorem holds_read (off : Fin 1 → ℕ) (h) (b : ℕ) (e : off = ![b]) (x : Flat F) : Holds x b ((xSl off h).view.read (Elt F) x) := by
  intro j i hi
  refine ((View.read_apply _ _).trans (cast_eq _ _)).trans (congrArg x ?_)
  exact flat_ext (by rw [hi]; exact emb_xSl off h b e j)

omit [FloatOps F] in
/-- A slice of the result written with contents that hold `y` from the slice's first element on holds `y` on the
    slice. -/
theorem write_oSl (off : Fin 1 → ℕ) (h) (b : ℕ) (e : off = ![b]) (y : Flat F) (f : Flat F) (g : Chunk F) (hg : Holds y b g) :
    ∀ i ∈ seg b, (oSl off h).view.write (Elt F) f g Finset.univ i = y i := by
  intro i hi
  rw [← set_oSl off h b e] at hi
  obtain ⟨j, -, rfl⟩ := Finset.mem_map.mp hi
  refine (View.write_emb_of_mem _ _ (Finset.mem_univ j)).trans ((cast_eq _ _).trans ?_)
  exact hg j _ (emb_oSl off h b e j)

end Cert.Proof.AddOne

end
-- ==== Proof.Inner.lean ====
/-
  A chunk's arithmetic: the inner loop of either half of a trip turns a buffer's contents `f` into `f` and one, element
  by element, sixteen elements a store and eight stores a trip.
-/
module

public import proofs.«01_k».proof.Proof.Common
public import Idealize.ShloMosaic.Lib.Pipeline.Value

@[expose] public section

noncomputable section

namespace Cert.Proof.AddOne

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop's invariant before trip `n`: the buffer read at `f`, the buffer written at `f` and one on the `128 * n`
    elements done. -/
def IncInv (d : Dev nD) (L : grid0.Coords) (a b : Memref sig .scVector .vmem S16384 .f32)
    (f : Buf (Elt F) (a.view.loc (thr d L))) (rd : S16384.Idx → F .f32) (n : ℕ) (_ : Unit) : sProp 𝕄 :=
  iprop((a.view.loc (thr d L) ↦{fullShare} f) ∗ ∃ g, (b.view.loc (thr d L) ↦{fullShare} g) ∗
    ⌜∀ j : S16384.Idx, (j 0).val < 128 * n → b.view.read (Elt F) g j = inc (rd j)⌝)

/-- The first half's inner loop takes 128 trips of 128 elements. -/
theorem trips2 : k0_t2_loop.trips = 128 := by decide
/-- So does the second half's. -/
theorem trips3 : k0_t3_loop.trips = 128 := by decide

/-- Writes whose payloads are all `G` on what they cover read as `G` wherever one covers, or the contents before did. -/
theorem read_pieces (b : Memref sig .scVector .vmem S16384 .f32) {d : Dev nD} {L : grid0.Coords} (g : Buf (Elt F) (b.view.loc (thr d L)))
    (G : S16384.Idx → F .f32) (P : List (View.Piece (Elt F) S16384 .f32)) (hP : ∀ p ∈ P, ∀ x : p.1.shape.Idx, p.2 x = G (p.1.emb x))
    (j : S16384.Idx) (h : (∃ p ∈ P, j ∈ p.1.set) ∨ b.view.read (Elt F) g j = G j) : b.view.read (Elt F) (b.view.writes (Elt F) g P) j = G j := by
  by_cases hc : ∃ p ∈ P, j ∈ p.1.set
  · exact View.read_writes_apply_of_pieces _ _ G P hP j hc
  · rw [View.read_writes_apply_of_forall_not_mem _ _ j P fun p hp hj => hc ⟨p, hp, hj⟩]
    exact h.resolve_left hc

/-- Sixteen elements from `o` on are those of the rectangle at offset `o`. -/
theorem mem_sixteen (off : Fin 1 → ℕ) (h) (o : ℕ) (e : off = ![o]) (j : S16384.Idx) (h1 : o ≤ (j 0).val) (h2 : (j 0).val < o + 16) :
    j ∈ (Rect.unit (s := S16384) off S16.size h).set := by
  subst e
  rw [Rect.mem_set_unit]
  intro a; rw [Fin.fin_one_eq_zero a]; exact ⟨h1, h2⟩

/-! The payloads of either loop's stores: what was loaded and one. -/
/-- A store of this piece stores what was loaded and one. -/
theorem pay5_apply (v : Vec F S16 .f32) (x : S16.Idx) : k0_pay5 v x = inc (v x) := by
  simp only [k0_pay5, shapeCast_self]; rfl
/-- A store of this piece stores what was loaded and one. -/
theorem pay6_apply (v : Vec F S16 .f32) (x : S16.Idx) : k0_pay6 v x = inc (v x) := by
  simp only [k0_pay6, shapeCast_self]; rfl
/-- A store of this piece stores what was loaded and one. -/
theorem pay7_apply (v : Vec F S16 .f32) (x : S16.Idx) : k0_pay7 v x = inc (v x) := by
  simp only [k0_pay7, shapeCast_self]; rfl
/-- A store of this piece stores what was loaded and one. -/
theorem pay8_apply (v : Vec F S16 .f32) (x : S16.Idx) : k0_pay8 v x = inc (v x) := by
  simp only [k0_pay8, shapeCast_self]; rfl
/-- A store of this piece stores what was loaded and one. -/
theorem pay25_apply (v : Vec F S16 .f32) (x : S16.Idx) : k0_pay25 v x = inc (v x) := by
  simp only [k0_pay25, shapeCast_self]; rfl
/-- A store of this piece stores what was loaded and one. -/
theorem pay26_apply (v : Vec F S16 .f32) (x : S16.Idx) : k0_pay26 v x = inc (v x) := by
  simp only [k0_pay26, shapeCast_self]; rfl
/-- A store of this piece stores what was loaded and one. -/
theorem pay27_apply (v : Vec F S16 .f32) (x : S16.Idx) : k0_pay27 v x = inc (v x) := by
  simp only [k0_pay27, shapeCast_self]; rfl
/-- A store of this piece stores what was loaded and one. -/
theorem pay19_apply (v : Vec F S16 .f32) (x : S16.Idx) : k0_pay19 v x = inc (v x) := by
  simp only [k0_pay19, shapeCast_self]; rfl
/-- A store of this piece stores what was loaded and one. -/
theorem pay20_apply (v : Vec F S16 .f32) (x : S16.Idx) : k0_pay20 v x = inc (v x) := by
  simp only [k0_pay20, shapeCast_self]; rfl
/-- A store of this piece stores what was loaded and one. -/
theorem pay21_apply (v : Vec F S16 .f32) (x : S16.Idx) : k0_pay21 v x = inc (v x) := by
  simp only [k0_pay21, shapeCast_self]; rfl
/-- A store of this piece stores what was loaded and one. -/
theorem pay22_apply (v : Vec F S16 .f32) (x : S16.Idx) : k0_pay22 v x = inc (v x) := by
  simp only [k0_pay22, shapeCast_self]; rfl
/-- A store of this piece stores what was loaded and one. -/
theorem pay2_apply (v : Vec F S16 .f32) (x : S16.Idx) : k0_pay2 v x = inc (v x) := by
  simp only [k0_pay2, shapeCast_self]; rfl
/-- A store of this piece stores what was loaded and one. -/
theorem pay3_apply (v : Vec F S16 .f32) (x : S16.Idx) : k0_pay3 v x = inc (v x) := by
  simp only [k0_pay3, shapeCast_self]; rfl
/-- A store of this piece stores what was loaded and one. -/
theorem pay4_apply (v : Vec F S16 .f32) (x : S16.Idx) : k0_pay4 v x = inc (v x) := by
  simp only [k0_pay4, shapeCast_self]; rfl
/-- A store of this piece stores what was loaded and one. -/
theorem pay24_apply (v : Vec F S16 .f32) (x : S16.Idx) : k0_pay24 (k0_pay9 v) x = inc (v x) := by
  simp only [k0_pay24, k0_pay9, shapeCast_self]; rfl
/-- A store of this piece stores what was loaded and one. -/
theorem pay1_apply (v : Vec F S16 .f32) (x : S16.Idx) : k0_pay1 (k0_pay23 v) x = inc (v x) := by
  simp only [k0_pay1, k0_pay23, shapeCast_self]; rfl
/-- The first half's inner loop: buffer `outA` ends with `inA`'s contents and one. -/
theorem inner_a (d : Dev nD) (L : grid0.Coords) (v1 v2 c0 c1 : BitVec 32) (t : Fin k0_t1_loop.trips) (f : Chunk F) :
    iprop((inA.view.loc (thr d L) ↦{fullShare} f) ∗ ∃ g, (outA.view.loc (thr d L) ↦{fullShare} g))
      ⊢ (wp frame (wpE (defs₀ (F := F)) 𝒱₀ (thr d L) none) Set.univ
          (Scf.Loop.for k0_t2_loop k0_t2_ok ⟨⟩ (k0_t2_body L xV (Memref.isWhole_whole _) oV (Memref.isWhole_whole _) inA (Memref.isWhole_whole _)
            inB (Memref.isWhole_whole _) outA (Memref.isWhole_whole _) outB (Memref.isWhole_whole _) cc0_scratch4 cc0_scratch5 cc0_scratch6 cc0_scratch7
            v1 v2 c0 c1 t))
          fun _ => iprop((inA.view.loc (thr d L) ↦{fullShare} f) ∗ ∃ g : Chunk F, (outA.view.loc (thr d L) ↦{fullShare} g) ∗
            ⌜∀ j, g j = inc (f j)⌝) : sProp 𝕄) := by
  iintro ⟨Hi, %g, Ho⟩
  sl_for (IncInv (F := F) d L inA outA f f) $$ [Hi Ho]
  · intro k acc
    sl_respell [k0_t2_body]
    unfold IncInv
    iintro ⟨Hi, %g, Ho, %hg⟩
    sl_exec
    rw [wp_ret]
    imodintro
    isplitl [Hi]; · iexact Hi
    iexists _
    isplitl [Ho]; · iexact Ho
    ipureintro
    intro j hj
    refine read_pieces outA g (fun j => inc (f j)) _ ?_ j ?_
    · simp only [List.forall_mem_cons, List.not_mem_nil, false_imp_iff, implies_true, and_true]
      refine ⟨?_, ?_, ?_, ?_, ?_, ?_, ?_, ?_⟩
      · intro x; exact pay27_apply _ _
      · intro x; exact pay26_apply _ _
      · intro x; exact pay25_apply _ _
      · intro x; exact pay24_apply _ _
      · intro x; exact pay8_apply _ _
      · intro x; exact pay7_apply _ _
      · intro x; exact pay6_apply _ _
      · intro x; exact pay5_apply _ _
    · by_cases hlt : (j 0).val < 128 * k.val
      · exact .inr (hg j hlt)
      · left
        have hj' : (j 0).val < 128 * k.val + 128 := by omega
        have cases : ∀ r : Fin 8, 128 * k.val + 16 * r.val ≤ (j 0).val → (j 0).val < 128 * k.val + 16 * r.val + 16 →
            j ∈ (Rect.unit (s := S16384) (k0_off4 k (BitVec.ofNat 32 (16 * r.val))) S16.size (k0_off4_inb k r)).set := fun r =>
          mem_sixteen _ _ _ (k0_off4_eq k r) j
        simp only [List.exists_mem_cons_iff, List.not_mem_nil, false_and, exists_false, or_false]
        rcases (by omega : (128 * k.val + 16 * 7 ≤ (j 0).val ∧ (j 0).val < 128 * k.val + 16 * 7 + 16) ∨
          (128 * k.val + 16 * 6 ≤ (j 0).val ∧ (j 0).val < 128 * k.val + 16 * 6 + 16) ∨
          (128 * k.val + 16 * 5 ≤ (j 0).val ∧ (j 0).val < 128 * k.val + 16 * 5 + 16) ∨
          (128 * k.val + 16 * 4 ≤ (j 0).val ∧ (j 0).val < 128 * k.val + 16 * 4 + 16) ∨
          (128 * k.val + 16 * 3 ≤ (j 0).val ∧ (j 0).val < 128 * k.val + 16 * 3 + 16) ∨
          (128 * k.val + 16 * 2 ≤ (j 0).val ∧ (j 0).val < 128 * k.val + 16 * 2 + 16) ∨
          (128 * k.val + 16 * 1 ≤ (j 0).val ∧ (j 0).val < 128 * k.val + 16 * 1 + 16) ∨
          (128 * k.val + 16 * 0 ≤ (j 0).val ∧ (j 0).val < 128 * k.val + 16 * 0 + 16)) with h | h | h | h | h | h | h | h
        · exact .inl (cases 7 h.1 h.2)
        · exact .inr (.inl (cases 6 h.1 h.2))
        · exact .inr (.inr (.inl (cases 5 h.1 h.2)))
        · exact .inr (.inr (.inr (.inl (cases 4 h.1 h.2))))
        · exact .inr (.inr (.inr (.inr (.inl (cases 3 h.1 h.2)))))
        · exact .inr (.inr (.inr (.inr (.inr (.inl (cases 2 h.1 h.2))))))
        · exact .inr (.inr (.inr (.inr (.inr (.inr (.inl (cases 1 h.1 h.2)))))))
        · exact .inr (.inr (.inr (.inr (.inr (.inr (.inr (cases 0 h.1 h.2)))))))
  · isplitl [Hi Ho]
    · unfold IncInv
      isplitl [Hi]; · iexact Hi
      iexists g
      isplitl [Ho]; · iexact Ho
      ipureintro
      intro j hj
      exact absurd hj (by omega)
    iintro %acc HI
    unfold IncInv
    icases HI with ⟨Hi, %g', Ho, %hg⟩
    isplitl [Hi]; · iexact Hi
    iexists g'
    isplitl [Ho]; · iexact Ho
    ipureintro
    intro j
    exact hg j (by have := lt_chunk j; rw [show Scf.trips k0_t2_loop.lb k0_t2_loop.ub k0_t2_loop.st = 128 from trips2]; omega)

/-- The second half's inner loop: buffer `outB` ends with `inB`'s contents and one. -/
theorem inner_b (d : Dev nD) (L : grid0.Coords) (f : Chunk F) :
    iprop((inB.view.loc (thr d L) ↦{fullShare} f) ∗ ∃ g, (outB.view.loc (thr d L) ↦{fullShare} g))
      ⊢ (wp frame (wpE (defs₀ (F := F)) 𝒱₀ (thr d L) none) Set.univ
          (Scf.Loop.for k0_t3_loop k0_t3_ok ⟨⟩ (k0_t3_body L xV (Memref.isWhole_whole _) oV (Memref.isWhole_whole _) inA (Memref.isWhole_whole _)
            inB (Memref.isWhole_whole _) outA (Memref.isWhole_whole _) outB (Memref.isWhole_whole _) cc0_scratch4 cc0_scratch5 cc0_scratch6 cc0_scratch7))
          fun _ => iprop((inB.view.loc (thr d L) ↦{fullShare} f) ∗ ∃ g : Chunk F, (outB.view.loc (thr d L) ↦{fullShare} g) ∗
            ⌜∀ j, g j = inc (f j)⌝) : sProp 𝕄) := by
  iintro ⟨Hi, %g, Ho⟩
  sl_for (IncInv (F := F) d L inB outB f f) $$ [Hi Ho]
  · intro k acc
    sl_respell [k0_t3_body]
    unfold IncInv
    iintro ⟨Hi, %g, Ho, %hg⟩
    sl_exec
    rw [wp_ret]
    imodintro
    isplitl [Hi]; · iexact Hi
    iexists _
    isplitl [Ho]; · iexact Ho
    ipureintro
    intro j hj
    refine read_pieces outB g (fun j => inc (f j)) _ ?_ j ?_
    · simp only [List.forall_mem_cons, List.not_mem_nil, false_imp_iff, implies_true, and_true]
      refine ⟨?_, ?_, ?_, ?_, ?_, ?_, ?_, ?_⟩
      · intro x; exact pay4_apply _ _
      · intro x; exact pay3_apply _ _
      · intro x; exact pay2_apply _ _
      · intro x; exact pay1_apply _ _
      · intro x; exact pay22_apply _ _
      · intro x; exact pay21_apply _ _
      · intro x; exact pay20_apply _ _
      · intro x; exact pay19_apply _ _
    · by_cases hlt : (j 0).val < 128 * k.val
      · exact .inr (hg j hlt)
      · left
        have hj' : (j 0).val < 128 * k.val + 128 := by omega
        have cases : ∀ r : Fin 8, 128 * k.val + 16 * r.val ≤ (j 0).val → (j 0).val < 128 * k.val + 16 * r.val + 16 →
            j ∈ (Rect.unit (s := S16384) (k0_off7 k (BitVec.ofNat 32 (16 * r.val))) S16.size (k0_off7_inb k r)).set := fun r =>
          mem_sixteen _ _ _ (k0_off7_eq k r) j
        simp only [List.exists_mem_cons_iff, List.not_mem_nil, false_and, exists_false, or_false]
        rcases (by omega : (128 * k.val + 16 * 7 ≤ (j 0).val ∧ (j 0).val < 128 * k.val + 16 * 7 + 16) ∨
          (128 * k.val + 16 * 6 ≤ (j 0).val ∧ (j 0).val < 128 * k.val + 16 * 6 + 16) ∨
          (128 * k.val + 16 * 5 ≤ (j 0).val ∧ (j 0).val < 128 * k.val + 16 * 5 + 16) ∨
          (128 * k.val + 16 * 4 ≤ (j 0).val ∧ (j 0).val < 128 * k.val + 16 * 4 + 16) ∨
          (128 * k.val + 16 * 3 ≤ (j 0).val ∧ (j 0).val < 128 * k.val + 16 * 3 + 16) ∨
          (128 * k.val + 16 * 2 ≤ (j 0).val ∧ (j 0).val < 128 * k.val + 16 * 2 + 16) ∨
          (128 * k.val + 16 * 1 ≤ (j 0).val ∧ (j 0).val < 128 * k.val + 16 * 1 + 16) ∨
          (128 * k.val + 16 * 0 ≤ (j 0).val ∧ (j 0).val < 128 * k.val + 16 * 0 + 16)) with h | h | h | h | h | h | h | h
        · exact .inl (cases 7 h.1 h.2)
        · exact .inr (.inl (cases 6 h.1 h.2))
        · exact .inr (.inr (.inl (cases 5 h.1 h.2)))
        · exact .inr (.inr (.inr (.inl (cases 4 h.1 h.2))))
        · exact .inr (.inr (.inr (.inr (.inl (cases 3 h.1 h.2)))))
        · exact .inr (.inr (.inr (.inr (.inr (.inl (cases 2 h.1 h.2))))))
        · exact .inr (.inr (.inr (.inr (.inr (.inr (.inl (cases 1 h.1 h.2)))))))
        · exact .inr (.inr (.inr (.inr (.inr (.inr (.inr (cases 0 h.1 h.2)))))))
  · isplitl [Hi Ho]
    · unfold IncInv
      isplitl [Hi]; · iexact Hi
      iexists g
      isplitl [Ho]; · iexact Ho
      ipureintro
      intro j hj
      exact absurd hj (by omega)
    iintro %acc HI
    unfold IncInv
    icases HI with ⟨Hi, %g', Ho, %hg⟩
    isplitl [Hi]; · iexact Hi
    iexists g'
    isplitl [Ho]; · iexact Ho
    ipureintro
    intro j
    exact hg j (by have := lt_chunk j; rw [show Scf.trips k0_t3_loop.lb k0_t3_loop.ub k0_t3_loop.st = 128 from trips3]; omega)

end Cert.Proof.AddOne

end
-- ==== Proof.Copies.lean ====
/-
  The four copies of a trip and their waits. A fetch copies a chunk of the flat argument into a buffer; a store copies a
  buffer into a chunk of the flat result. Each of the four semaphores has at most one copy outstanding: its flight holds
  the buffer and the chunk until the wait, which hands them back with the contents told.
-/
module

public import proofs.«01_k».proof.Proof.Common

@[expose] public section

noncomputable section

namespace Cert.Proof.AddOne

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The amount any of the copies signals: a chunk's. -/
abbrev NB : ℕ := (inA.view).dmaCredit

/-- A copy signals a positive amount. -/
theorem NB_pos : 0 < NB := View.dmaCredit_pos _ (by decide)
/-- A copy to a slice of the flat result signals a chunk's amount. -/
theorem credit_o (off : Fin 1 → ℕ) (h) : (oSl off h).view.dmaCredit = NB := by rfl
/-- So does a copy into the first input buffer. -/
theorem credit_a : inA.view.dmaCredit = NB := by rfl
/-- So does a copy into the second. -/
theorem credit_b : inB.view.dmaCredit = NB := by rfl

section Rules

variable (d : Dev nD) (L : grid0.Coords) (x : Flat F)

/-- A buffer at some contents. -/
def Any (a : Memref sig .scVector .vmem S16384 .f32) : sProp 𝕄 := iprop(∃ f : Buf (Elt F) (a.view.loc (thr d L)), a.view.loc (thr d L) ↦{fullShare} f)

/-- A buffer that holds `y` from element `b` on. -/
def Full (a : Memref sig .scVector .vmem S16384 .f32) (y : Flat F) (b : ℕ) : sProp 𝕄 :=
  iprop(∃ f : Buf (Elt F) (a.view.loc (thr d L)), ⌜Holds y b (a.view.read (Elt F) f)⌝ ∗ (a.view.loc (thr d L) ↦{fullShare} f))

/-- The chunk from `b` on of the flat argument. -/
def XC (b : ℕ) : sProp 𝕄 := iprop(xLoc d ↦[seg b]{fullShare} x)
/-- The chunk from `b` on of the flat result, at contents `y`. -/
def OC (y : Flat F) (b : ℕ) : sProp 𝕄 := iprop(oLoc d ↦[seg b]{fullShare} y)

/-- A fetch under way into `a`, on semaphore `s`, of the chunk from `b` on. -/
def InFl (a : Memref sig .scVector .vmem S16384 .f32) (s : DmaSem sig) (b : ℕ) : sProp 𝕄 :=
  Transfers.Flight (countersEmb (Name := ℕ) (U := UU)) (thr d L) (.dma s) (none : HIx 1) NB iprop(Full d L a x b ∗ XC d x b)

/-- A store under way out of `a`, on semaphore `s`, to the chunk from `b` on, which it leaves at the value. -/
def OutFl (a : Memref sig .scVector .vmem S16384 .f32) (s : DmaSem sig) (b : ℕ) : sProp 𝕄 :=
  Transfers.Flight (countersEmb (Name := ℕ) (U := UU)) (thr d L) (.dma s) (none : HIx 1) NB iprop(Any (F := F) d L a ∗ OC d (outVal x) b)

/-- What the thread owes, its record of waits grown by waits of its own only. -/
def OW (O : CellTallies nD τ sig (HIx 1)) (W : Waits sig (HIx 1)) : sProp 𝕄 :=
  iprop(∃ W', ⌜∀ p ∈ W', p ∈ W ∨ p.2 = none⌝ ∗ owes (thr d L) O W')

/-- What the thread owes, with its record as it is, is that record grown by nothing. -/
theorem OW_intro (O : CellTallies nD τ sig (HIx 1)) (W : Waits sig (HIx 1)) : (owes (thr d L) O W : sProp 𝕄) ⊢ OW (F := F) d L O W := by
  unfold OW
  iintro H
  iexists W
  isplitr
  · ipureintro; exact fun p hp => .inl hp
  iexact H

variable {α : Type}

/-- A fetch is issued: the chunk and the buffer go into its flight. -/
theorem wp_fetch (a : Memref sig .scVector .vmem S16384 .f32) (s : DmaSem sig) (off : Fin 1 → ℕ) (h) (b : ℕ) (e : off = ![b])
    (hN : a.view.dmaCredit = NB) {hsrc : (xSl off h).view.WordExact} {hdst : a.view.WordExact}
    {hsem : DmaTarget.Typed (nD := nD) (p := (thr d L).2) .hbm (SemLoc.dma s) (.here a)}
    {Q : α → sProp 𝕄} {k : PUnit → Prog (TpuEff nD τ sig (Elt F) Λ₀ (.scVector (cV L) (jV L))) α} :
    iprop(XC d x b ∗ Any (F := F) d L a ∗ semVal (thr d L, SemLoc.dma s) 0)
      ⊢ iprop((InFl d L x a s b -∗ wp frame (wpE (defs₀ (F := F)) 𝒱₀ (thr d L) none) Set.univ (k ⟨⟩) Q)
        -∗ wp frame (wpE (defs₀ (F := F)) 𝒱₀ (thr d L) none) Set.univ (.op (.enqueueDma (xSl off h) (.here a) (.dma s) hsrc hdst hsem) k) Q) := by
  unfold Any
  iintro ⟨Hx, ⟨%fd, Ha⟩, Hs⟩ Hk
  have hset : (XC d x b : sProp 𝕄) = ((xSl off h).view.loc (thr d L) ↦[(xSl off h).view.set]{fullShare} x) := by
    rw [set_xSl off h b e]; rfl
  ihave Hx' := (Entails.of_eq hset) $$ Hx
  iapply (Transfers.wp_dmaLocal countersEmb 𝒱₀ (thr d L) none (none : HIx 1) NB ((View.amount_dma _ _).trans hN) NB_pos (Finset.subset_univ _)) $$ [Hx' Ha Hs]
  · isplitl [Hx']; · iexact Hx'
    isplitl [Ha]; · iexact Ha
    iexact Hs
  iintro Hf
  iapply Hk
  unfold InFl
  iapply (Transfers.Flight_mono countersEmb (thr d L) ?_) $$ Hf
  unfold Full
  iintro ⟨Ha, Hx⟩
  isplitl [Ha]
  · iexists _
    isplitr
    rotate_left
    · iexact Ha
    ipureintro
    rw [View.read_write_univ]
    exact holds_read off h b e x
  · rw [hset]; iexact Hx

/-- A store is issued: the buffer, which holds the value from the chunk's first element on, and the chunk go into its
    flight. -/
theorem wp_put (a : Memref sig .scVector .vmem S16384 .f32) (s : DmaSem sig) (off : Fin 1 → ℕ) (h) (b : ℕ) (e : off = ![b])
    (ha : a.view.set = Finset.univ) (y : Flat F)
    {hsrc : a.view.WordExact} {hdst : (oSl off h).view.WordExact}
    {hsem : DmaTarget.Typed (nD := nD) (p := (thr d L).2) .vmem (SemLoc.dma s) (.here (oSl off h))}
    {Q : α → sProp 𝕄} {k : PUnit → Prog (TpuEff nD τ sig (Elt F) Λ₀ (.scVector (cV L) (jV L))) α} :
    iprop(OC d y b ∗ Full d L a (outVal x) b ∗ semVal (thr d L, SemLoc.dma s) 0)
      ⊢ iprop((OutFl d L x a s b -∗ wp frame (wpE (defs₀ (F := F)) 𝒱₀ (thr d L) none) Set.univ (k ⟨⟩) Q)
        -∗ wp frame (wpE (defs₀ (F := F)) 𝒱₀ (thr d L) none) Set.univ (.op (.enqueueDma a (.here (oSl off h)) (.dma s) hsrc hdst hsem) k) Q) := by
  unfold Full
  iintro ⟨Ho, ⟨%f, %hf, Ha⟩, Hs⟩ Hk
  have hset : ∀ z : Flat F, (OC d z b : sProp 𝕄) = ((oSl off h).view.loc (thr d L) ↦[(oSl off h).view.set]{fullShare} z) := by
    intro z; rw [set_oSl off h b e]; rfl
  have haset : ∀ f : Buf (Elt F) (a.view.loc (thr d L)), (a.view.loc (thr d L) ↦{fullShare} f : sProp 𝕄)
      = (a.view.loc (thr d L) ↦[a.view.set]{fullShare} f) := fun f => by rw [ha]
  ihave Ho' := (Entails.of_eq (hset y)) $$ Ho
  ihave Ha' := (Entails.of_eq (haset f)) $$ Ha
  iapply (Transfers.wp_dmaLocal countersEmb 𝒱₀ (thr d L) none (none : HIx 1) NB ((View.amount_dma _ _).trans (credit_o off h)) NB_pos (Finset.Subset.refl _)) $$ [Ho' Ha' Hs]
  · isplitl [Ha']; · iexact Ha'
    isplitl [Ho']; · iexact Ho'
    iexact Hs
  iintro Hf
  iapply Hk
  unfold OutFl
  iapply (Transfers.Flight_mono countersEmb (thr d L) ?_) $$ Hf
  unfold Any
  iintro ⟨Ho, Ha⟩
  isplitl [Ha]
  · iexists f
    rw [haset f]; iexact Ha
  · rw [hset, set_oSl off h b e]
    iapply (Entails.of_eq (pointsTo_congr ?_)) $$ Ho
    exact write_oSl off h b e (outVal x) y _ hf

/-- A wait for the one flight on its semaphore: what the flight holds comes back and the semaphore is at zero again. -/
theorem wp_land (s : DmaSem sig) {D : sProp 𝕄} {O : CellTallies nD τ sig (HIx 1)} {W : Waits sig (HIx 1)} {sp sp' : Space}
    {src : Memref sig .scVector sp' S16384 .f32} {dst : Memref sig .scVector sp S16384 .f32} (hN : dst.view.dmaCredit = NB)
    {hsrc : src.view.WordExact} {hdst : dst.view.WordExact}
    {Q : α → sProp 𝕄} {k : PUnit → Prog (TpuEff nD τ sig (Elt F) Λ₀ (.scVector (cV L) (jV L))) α} :
    iprop(Transfers.Flight (countersEmb (Name := ℕ) (U := UU)) (thr d L) (.dma s) (none : HIx 1) NB D ∗ OW d L O W ∗ Transfers.MayWaits (thr d L) (none : HIx 1) O)
      ⊢ iprop((iprop(D ∗ semVal (thr d L, SemLoc.dma s) 0 ∗ OW d L O W) -∗ wp frame (wpE (defs₀ (F := F)) 𝒱₀ (thr d L) none) Set.univ (k ⟨⟩) Q)
        -∗ wp frame (wpE (defs₀ (F := F)) 𝒱₀ (thr d L) none) Set.univ (.op (.waitDma2 s src dst hsrc hdst) k) Q) := by
  unfold OW
  iintro ⟨Hf, ⟨%W', %hW, HO⟩, #Hmw⟩ Hk
  iapply (Transfers.wp_waitLocalO countersEmb 𝒱₀ (thr d L) none (none : HIx 1) hN) $$ [Hf HO]
  · isplitl [Hf]; · iexact Hf
    isplitl [HO]; · iexact HO
    iapply (Transfers.MayWaits.elim (SemLoc.dma s)) $$ Hmw
  iintro ⟨HD, Hs, HO⟩
  iapply Hk
  isplitl [HD]; · iexact HD
  isplitl [Hs]; · iexact Hs
  iexists _
  isplitr
  rotate_left
  · iexact HO
  ipureintro
  intro p hp
  rcases Finset.mem_insert.mp hp with rfl | hp
  · exact .inr rfl
  · exact hW p hp

end Rules

end Cert.Proof.AddOne

end
-- ==== Proof.Steps.lean ====
/-
  A tile's run. Its invariant before trip `n` of the outer loop: chunks `2n` and `2n + 1` of the argument are being
  fetched, chunks `2n - 2` and `2n - 1` of the result are being stored; the other chunks lie ahead or behind.
-/
module

public import proofs.«01_k».proof.Proof.Inner
public import proofs.«01_k».proof.Proof.Copies

@[expose] public section

noncomputable section

namespace Cert.Proof.AddOne

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Families of chunks -/

/-- The chunks from `n` on. -/
def ahead (Φ : ℕ → sProp 𝕄) (n : ℕ) : sProp 𝕄 := bigSep (Finset.Ico n 32) Φ
/-- The chunks before `n`. -/
def behind (Φ : ℕ → sProp 𝕄) (n : ℕ) : sProp 𝕄 := bigSep (Finset.range n) Φ

/-- The chunks from `n` on are chunk `n` and those after it. -/
theorem ahead_succ (Φ : ℕ → sProp 𝕄) {n : ℕ} (h : n < 32) : ahead Φ n = iprop(Φ n ∗ ahead Φ (n + 1)) := by
  unfold ahead
  have e : Finset.Ico n 32 = insert n (Finset.Ico (n + 1) 32) := by
    ext p; simp only [Finset.mem_insert, Finset.mem_Ico]; omega
  rw [e, SparseCore.bigSep_insert' (by simp)]
/-- From 32 on there are none. -/
theorem ahead_end (Φ : ℕ → sProp 𝕄) {n : ℕ} (h : 32 ≤ n) : ahead Φ n = iprop(emp) := by
  unfold ahead
  rw [Finset.Ico_eq_empty (by omega)]; exact BI.bigSep_empty
/-- The chunks before `n + 1` are chunk `n` and those before it. -/
theorem behind_succ (Φ : ℕ → sProp 𝕄) (n : ℕ) : behind Φ (n + 1) = iprop(Φ n ∗ behind Φ n) := by
  unfold behind
  rw [Finset.range_add_one, SparseCore.bigSep_insert' (by simp)]
/-- There are none before chunk 0. -/
theorem behind_zero (Φ : ℕ → sProp 𝕄) : behind Φ 0 = iprop(emp) := by
  unfold behind
  rw [Finset.range_zero]; exact BI.bigSep_empty

/-! ## Steps of a run -/

section Steps

variable (d : Dev nD) (L : grid0.Coords) (x : Flat F)

/-- A step's rule in a longer run: what it leaves is what the rest starts from. -/
theorem wp_use {α : Type} {m : Prog (TpuEff nD τ sig (Elt F) Λ₀ (.scVector (cV L) (jV L))) α} {P : sProp 𝕄} {Φ Q : α → sProp 𝕄}
    (h : P ⊢ wp frame (wpE (defs₀ (F := F)) 𝒱₀ (thr d L) none) Set.univ m Φ) :
    P ⊢ iprop((∀ a, Φ a -∗ Q a) -∗ wp frame (wpE (defs₀ (F := F)) 𝒱₀ (thr d L) none) Set.univ m Q) :=
  h.trans (wp_wand frame _ _)

/-- A branch with nothing on its other side, before a rest `k`: what either side leaves is what the rest starts from. -/
theorem wp_branch {α : Type} {c : Prop} [Decidable c] {p : c → Prog (TpuEff nD τ sig (Elt F) Λ₀ (.scVector (cV L) (jV L))) α}
    {k : Prog (TpuEff nD τ sig (Elt F) Λ₀ (.scVector (cV L) (jV L))) α} {P R : sProp 𝕄} {Q : α → sProp 𝕄}
    (h1 : ∀ hh : c, iprop(P ∗ (R -∗ wp frame (wpE (defs₀ (F := F)) 𝒱₀ (thr d L) none) Set.univ k Q))
      ⊢ wp frame (wpE (defs₀ (F := F)) 𝒱₀ (thr d L) none) Set.univ (p hh) Q) (h2 : ¬ c → P ⊢ R) :
    P ⊢ iprop((R -∗ wp frame (wpE (defs₀ (F := F)) 𝒱₀ (thr d L) none) Set.univ k Q)
      -∗ wp frame (wpE (defs₀ (F := F)) 𝒱₀ (thr d L) none) Set.univ (dite c p (fun _ => k)) Q) := by
  iintro HP Hk
  by_cases hh : c
  · rw [dif_pos hh]
    iapply (h1 hh)
    isplitl [HP]; · iexact HP
    iexact Hk
  · rw [dif_neg hh]
    iapply Hk
    iapply (h2 hh); iexact HP

/-- The state of a buffer and its semaphore on the fetching side: chunk `p` under way, or, past the last chunk, at rest. -/
def inSt (a : Memref sig .scVector .vmem S16384 .f32) (s : DmaSem sig) (p : ℕ) : sProp 𝕄 :=
  if p < 32 then InFl d L x a s (cb L p) else iprop(Any (F := F) d L a ∗ semVal (thr d L, SemLoc.dma s) 0)
/-- The same on the storing side before trip `n`: chunk `p` under way, or, before the first trip, at rest. -/
def outSt (a : Memref sig .scVector .vmem S16384 .f32) (s : DmaSem sig) (n p : ℕ) : sProp 𝕄 :=
  if 0 < n then OutFl d L x a s (cb L p) else iprop(Any (F := F) d L a ∗ semVal (thr d L, SemLoc.dma s) 0)

/-- Chunk `p` of the argument. -/
def xc (p : ℕ) : sProp 𝕄 := XC d x (cb L p)
/-- Chunk `p` of the result at contents `y`: as it was, or at its value. -/
def oc (y : Flat F) (p : ℕ) : sProp 𝕄 := OC d y (cb L p)

/-- A fetch of chunk `p`. -/
theorem t_fetch (a : Memref sig .scVector .vmem S16384 .f32) (s : DmaSem sig) (hN : a.view.dmaCredit = NB) (p : ℕ) (hp : p < 32)
    (off : Fin 1 → ℕ) (h) (e : off = ![cb L p]) {hsrc : (xSl off h).view.WordExact} {hdst : a.view.WordExact}
    {hsem : DmaTarget.Typed (nD := nD) (p := (thr d L).2) .hbm (SemLoc.dma s) (.here a)} :
    iprop(xc d L x p ∗ Any (F := F) d L a ∗ semVal (thr d L, SemLoc.dma s) 0)
      ⊢ wp frame (wpE (defs₀ (F := F)) 𝒱₀ (thr d L) none) Set.univ (Prog.lift (.enqueueDma (xSl off h) (.here a) (.dma s) hsrc hdst hsem))
          fun _ => (inSt d L x a s p : sProp 𝕄) := by
  unfold xc inSt
  rw [if_pos hp]
  iintro H
  iapply (wp_fetch d L x a s off h (cb L p) e hN) $$ H
  iintro H
  rw [wp_ret]; imodintro; iexact H

/-- A fetch of chunk `p` where the program asks first whether there is such a chunk. -/
theorem t_fetch_if (a : Memref sig .scVector .vmem S16384 .f32) (s : DmaSem sig) (hN : a.view.dmaCredit = NB) (p : ℕ) {c : Prop} [Decidable c] (hc : c ↔ p < 32)
    {off : Fin 1 → ℕ} {h : c → ∀ i, off i + S16384.size i ≤ S16777216.size i} (e : off = ![cb L p])
    {hsrc : ∀ hh, (xSl off (h hh)).view.WordExact} {hdst : c → a.view.WordExact}
    {hsem : c → DmaTarget.Typed (nD := nD) (p := (thr d L).2) .hbm (SemLoc.dma s) (.here a)}
    {α : Type} {k : Prog (TpuEff nD τ sig (Elt F) Λ₀ (.scVector (cV L) (jV L))) α} {Q : α → sProp 𝕄} :
    iprop(ahead (xc d L x) p ∗ Any (F := F) d L a ∗ semVal (thr d L, SemLoc.dma s) 0)
      ⊢ iprop((iprop(ahead (xc d L x) (p + 1) ∗ inSt d L x a s p) -∗ wp frame (wpE (defs₀ (F := F)) 𝒱₀ (thr d L) none) Set.univ k Q)
        -∗ wp frame (wpE (defs₀ (F := F)) 𝒱₀ (thr d L) none) Set.univ
          (dite c (fun hh => Prog.lift (.enqueueDma (xSl off (h hh)) (.here a) (.dma s) (hsrc hh) (hdst hh) (hsem hh)) >>= fun _ => k) (fun _ => k)) Q) := by
  refine wp_branch d L (fun hh => ?_) (fun hh => ?_)
  · have hp := hc.mp hh
    rw [wp_bind, ahead_succ _ hp]
    iintro ⟨⟨⟨Hx, Hr⟩, Ha, Hs⟩, Hk⟩
    iapply (wp_use d L (t_fetch d L x a s hN p hp off (h hh) e)) $$ [Hx Ha Hs]
    · isplitl [Hx]; · iexact Hx
      isplitl [Ha]; · iexact Ha
      iexact Hs
    iintro %_ H
    iapply Hk
    isplitl [Hr]; · iexact Hr
    iexact H
  · have hp : ¬ p < 32 := fun h => hh (hc.mpr h)
    unfold inSt
    rw [if_neg hp, ahead_end _ (by omega), ahead_end _ (by omega)]

/-- The wait for the fetch of chunk `p`: the buffer holds it, and the chunk is back. -/
theorem t_fetched (a : Memref sig .scVector .vmem S16384 .f32) (s : DmaSem sig) (p n : ℕ) (hn : n = p) (hp : p < 32)
    {O : CellTallies nD τ sig (HIx 1)} {W : Waits sig (HIx 1)} {src : Memref sig .scVector .hbm S16384 .f32} (hN : a.view.dmaCredit = NB)
    {hsrc : src.view.WordExact} {hdst : a.view.WordExact} :
    iprop(inSt d L x a s p ∗ behind (xc d L x) n ∗ OW d L O W ∗ Transfers.MayWaits (thr d L) (none : HIx 1) O)
      ⊢ wp frame (wpE (defs₀ (F := F)) 𝒱₀ (thr d L) none) Set.univ (Prog.lift (.waitDma2 s src a hsrc hdst))
          fun _ => (iprop(Full d L a x (cb L p) ∗ semVal (thr d L, SemLoc.dma s) 0 ∗ behind (xc d L x) (n + 1) ∗ OW d L O W) : sProp 𝕄) := by
  subst hn
  unfold inSt InFl
  rw [if_pos hp, behind_succ]
  iintro ⟨Hf, Hb, HO, #Hmw⟩
  iapply (wp_land d L s hN) $$ [Hf HO]
  · isplitl [Hf]; · iexact Hf
    isplitl [HO]; · iexact HO
    iexact Hmw
  iintro ⟨⟨Ha, Hx⟩, Hs, HO⟩
  rw [wp_ret]; imodintro
  isplitl [Ha]; · iexact Ha
  isplitl [Hs]; · iexact Hs
  isplitr [HO]
  · isplitl [Hx]; · unfold xc; iexact Hx
    iexact Hb
  iexact HO

/-- The wait for the store of chunk `p`, which trip `n - 1` began: the buffer and the chunk, at its value, are back. -/
theorem t_stored (a : Memref sig .scVector .vmem S16384 .f32) (s : DmaSem sig) (p n : ℕ) (hn : 0 < n)
    {O : CellTallies nD τ sig (HIx 1)} {W : Waits sig (HIx 1)} {off : Fin 1 → ℕ} {h}
    {hsrc : a.view.WordExact} {hdst : (oSl off h).view.WordExact} :
    iprop(outSt d L x a s n p ∗ behind (oc d L (outVal x)) p ∗ OW d L O W ∗ Transfers.MayWaits (thr d L) (none : HIx 1) O)
      ⊢ wp frame (wpE (defs₀ (F := F)) 𝒱₀ (thr d L) none) Set.univ (Prog.lift (.waitDma2 s a (oSl off h) hsrc hdst))
          fun _ => (iprop(Any (F := F) d L a ∗ semVal (thr d L, SemLoc.dma s) 0 ∗ behind (oc d L (outVal x)) (p + 1) ∗ OW d L O W) : sProp 𝕄) := by
  unfold outSt OutFl
  rw [if_pos hn, behind_succ]
  iintro ⟨Hf, Hb, HO, #Hmw⟩
  iapply (wp_land d L s (credit_o off h)) $$ [Hf HO]
  · isplitl [Hf]; · iexact Hf
    isplitl [HO]; · iexact HO
    iexact Hmw
  iintro ⟨⟨Ha, Hx⟩, Hs, HO⟩
  rw [wp_ret]; imodintro
  isplitl [Ha]; · iexact Ha
  isplitl [Hs]; · iexact Hs
  isplitr [HO]
  · isplitl [Hx]; · unfold oc; iexact Hx
    iexact Hb
  iexact HO

/-- The same where the program asks first whether an earlier trip began one. -/
theorem t_stored_if (a : Memref sig .scVector .vmem S16384 .f32) (s : DmaSem sig) (p p' n : ℕ) {c : Prop} [Decidable c] (hc : c ↔ 0 < n)
    (hp : 0 < n → p' = p + 1) (hp0 : n = 0 → p = 0 ∧ p' = 0)
    {O : CellTallies nD τ sig (HIx 1)} {W : Waits sig (HIx 1)} {off : Fin 1 → ℕ} {h : c → ∀ i, off i + S16384.size i ≤ S16777216.size i}
    {hsrc : c → a.view.WordExact} {hdst : ∀ hh, (oSl off (h hh)).view.WordExact}
    {α : Type} {k : Prog (TpuEff nD τ sig (Elt F) Λ₀ (.scVector (cV L) (jV L))) α} {Q : α → sProp 𝕄} :
    iprop(outSt d L x a s n p ∗ behind (oc d L (outVal x)) p ∗ OW d L O W ∗ Transfers.MayWaits (thr d L) (none : HIx 1) O)
      ⊢ iprop((iprop(Any (F := F) d L a ∗ semVal (thr d L, SemLoc.dma s) 0 ∗ behind (oc d L (outVal x)) p' ∗ OW d L O W)
          -∗ wp frame (wpE (defs₀ (F := F)) 𝒱₀ (thr d L) none) Set.univ k Q)
        -∗ wp frame (wpE (defs₀ (F := F)) 𝒱₀ (thr d L) none) Set.univ
          (dite c (fun hh => Prog.lift (.waitDma2 s a (oSl off (h hh)) (hsrc hh) (hdst hh)) >>= fun _ => k) (fun _ => k)) Q) := by
  refine wp_branch d L (fun hh => ?_) (fun hh => ?_)
  · have hn := hc.mp hh
    rw [wp_bind, hp hn]
    iintro ⟨H, Hk⟩
    iapply (wp_use d L (t_stored d L x a s p n hn)) $$ H
    iintro %_ H
    iapply Hk; iexact H
  · have hn : n = 0 := by by_contra h; exact hh (hc.mpr (by omega))
    obtain ⟨rfl, rfl⟩ := hp0 hn
    unfold outSt
    rw [if_neg (by omega)]
    iintro ⟨⟨Ha, Hs⟩, Hb, HO, -⟩
    isplitl [Ha]; · iexact Ha
    isplitl [Hs]; · iexact Hs
    isplitl [Hb]; · iexact Hb
    iexact HO

/-- A store to chunk `p`, in trip `n`. -/
theorem t_store (a : Memref sig .scVector .vmem S16384 .f32) (s : DmaSem sig) (ha : a.view.set = Finset.univ) (y : Flat F) (p n : ℕ) (hp : p < 32)
    (hn : 0 < n) (off : Fin 1 → ℕ) (h) (e : off = ![cb L p]) {hsrc : a.view.WordExact} {hdst : (oSl off h).view.WordExact}
    {hsem : DmaTarget.Typed (nD := nD) (p := (thr d L).2) .vmem (SemLoc.dma s) (.here (oSl off h))} :
    iprop(ahead (oc d L y) p ∗ Full d L a (outVal x) (cb L p) ∗ semVal (thr d L, SemLoc.dma s) 0)
      ⊢ wp frame (wpE (defs₀ (F := F)) 𝒱₀ (thr d L) none) Set.univ (Prog.lift (.enqueueDma a (.here (oSl off h)) (.dma s) hsrc hdst hsem))
          fun _ => (iprop(ahead (oc d L y) (p + 1) ∗ outSt d L x a s n p) : sProp 𝕄) := by
  unfold outSt
  rw [ahead_succ _ hp, if_pos hn]
  iintro ⟨⟨Ho, Hr⟩, Ha, Hs⟩
  iapply (wp_put d L x a s off h (cb L p) e ha y) $$ [Ho Ha Hs]
  · isplitl [Ho]; · unfold oc; iexact Ho
    isplitl [Ha]; · iexact Ha
    iexact Hs
  iintro H
  rw [wp_ret]; imodintro
  isplitl [Hr]; · iexact Hr
  iexact H

end Steps

end Cert.Proof.AddOne

end
-- ==== Proof.Tile.lean ====
/-
  A tile's run, trip by trip: the arithmetic of either half, row 1's stores, and the outer loop's trip.
-/
module

public import proofs.«01_k».proof.Proof.Steps

@[expose] public section

noncomputable section

namespace Cert.Proof.AddOne

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The arithmetic of a half -/

/-- The flat argument and one: the value away from row 1. -/
def incVal (x : Flat F) : Flat F := fun i => inc (x i)

/-- The first output buffer's view is all of it. -/
theorem set_outA : outA.view.set = Finset.univ := View.set_whole _
/-- So is the second's. -/
theorem set_outB : outB.view.set = Finset.univ := View.set_whole _

section Halves

variable (d : Dev nD) (L : grid0.Coords) (x : Flat F)

/-- The first half's inner loop on a chunk. -/
theorem half_a (v1 v2 c0 c1 : BitVec 32) (t : Fin k0_t1_loop.trips) (b : ℕ) :
    iprop(Full d L inA x b ∗ Any (F := F) d L outA)
      ⊢ (wp frame (wpE (defs₀ (F := F)) 𝒱₀ (thr d L) none) Set.univ
          (Scf.Loop.for k0_t2_loop k0_t2_ok ⟨⟩ (k0_t2_body L xV (Memref.isWhole_whole _) oV (Memref.isWhole_whole _) inA (Memref.isWhole_whole _)
            inB (Memref.isWhole_whole _) outA (Memref.isWhole_whole _) outB (Memref.isWhole_whole _) cc0_scratch4 cc0_scratch5 cc0_scratch6 cc0_scratch7
            v1 v2 c0 c1 t))
          fun _ => iprop(Any (F := F) d L inA ∗ Full d L outA (incVal x) b) : sProp 𝕄) := by
  unfold Full Any
  iintro ⟨⟨%f, %hf, Hi⟩, Ho⟩
  iapply (wp_use d L (inner_a d L v1 v2 c0 c1 t f)) $$ [Hi Ho]
  · isplitl [Hi]; · iexact Hi
    iexact Ho
  iintro %_ ⟨Hi, %g, Ho, %hg⟩
  isplitl [Hi]; · iexists f; iexact Hi
  iexists g
  isplitr
  · ipureintro
    intro j i hi
    exact (hg j).trans (congrArg inc (hf j i hi))
  iexact Ho

/-- The second half's inner loop on a chunk. -/
theorem half_b (b : ℕ) :
    iprop(Full d L inB x b ∗ Any (F := F) d L outB)
      ⊢ (wp frame (wpE (defs₀ (F := F)) 𝒱₀ (thr d L) none) Set.univ
          (Scf.Loop.for k0_t3_loop k0_t3_ok ⟨⟩ (k0_t3_body L xV (Memref.isWhole_whole _) oV (Memref.isWhole_whole _) inA (Memref.isWhole_whole _)
            inB (Memref.isWhole_whole _) outA (Memref.isWhole_whole _) outB (Memref.isWhole_whole _) cc0_scratch4 cc0_scratch5 cc0_scratch6 cc0_scratch7))
          fun _ => iprop(Any (F := F) d L inB ∗ Full d L outB (incVal x) b) : sProp 𝕄) := by
  unfold Full Any
  iintro ⟨⟨%f, %hf, Hi⟩, Ho⟩
  iapply (wp_use d L (inner_b d L f)) $$ [Hi Ho]
  · isplitl [Hi]; · iexact Hi
    iexact Ho
  iintro %_ ⟨Hi, %g, Ho, %hg⟩
  isplitl [Hi]; · iexists f; iexact Hi
  iexists g
  isplitr
  · ipureintro
    intro j i hi
    exact (hg j).trans (congrArg inc (hf j i hi))
  iexact Ho

/-- Away from row 1 a buffer that holds the argument and one holds the value. -/
theorem full_far (a : Memref sig .scVector .vmem S16384 .f32) (b : ℕ) (hb : 512 ≤ b) :
    (Full d L a (incVal x) b : sProp 𝕄) ⊢ Full d L a (outVal x) b := by
  unfold Full
  iintro ⟨%f, %hf, H⟩
  iexists f
  isplitr
  · ipureintro
    intro j i hi
    refine (hf j i hi).trans ?_
    unfold outVal incVal
    rw [if_neg (by omega)]
  iexact H

end Halves

/-! ## Row 1 -/

/-- Contents with 2.0 at elements 256 to 511. -/
def withRow (g : Chunk F) : Chunk F := fun j => if 256 ≤ (j 0).val ∧ (j 0).val < 512 then two else g j

/-- A store of sixteen twos inside row 1 stores what `withRow` has there. -/
theorem row_piece (g : Chunk F) (o : ℕ) (inb) (h1 : 256 ≤ o) (h2 : o + 16 ≤ 512) (w : S16.Idx → F .f32) (hw : ∀ k, w k = two) (k : S16.Idx) :
    w k = withRow g ((Rect.unit (s := S16384) ![o] S16.size inb).emb k) := by
  have hk : (k 0).val < 16 := (k 0).isLt
  have he : (((Rect.unit (s := S16384) ![o] S16.size inb).emb k 0 : Fin _) : ℕ) = o + (k 0).val := by
    rw [Rect.emb_apply]; show o + 1 * (k 0).val = _; omega
  unfold withRow
  rw [hw, if_pos]
  constructor
  · exact he ▸ (by omega : 256 ≤ o + (k 0).val)
  · exact he ▸ (by omega : o + (k 0).val < 512)

/-! The payloads of row 1's stores: 2.0. -/
/-- This piece of row 1 is sixteen twos. -/
theorem pay10_two (k : S16.Idx) : k0_pay10 (F := F) k = two := by
  simp only [k0_pay10, shapeCast_self]; rfl
/-- This piece of row 1 is sixteen twos. -/
theorem pay11_two (k : S16.Idx) : k0_pay11 (F := F) k = two := by
  simp only [k0_pay11, shapeCast_self]; rfl
/-- This piece of row 1 is sixteen twos. -/
theorem pay12_two (k : S16.Idx) : k0_pay12 (F := F) k = two := by
  simp only [k0_pay12, shapeCast_self]; rfl
/-- This piece of row 1 is sixteen twos. -/
theorem pay13_two (k : S16.Idx) : k0_pay13 (F := F) k = two := by
  simp only [k0_pay13, shapeCast_self]; rfl
/-- This piece of row 1 is sixteen twos. -/
theorem pay14_two (k : S16.Idx) : k0_pay14 (F := F) k = two := by
  simp only [k0_pay14, shapeCast_self]; rfl
/-- This piece of row 1 is sixteen twos. -/
theorem pay15_two (k : S16.Idx) : k0_pay15 (F := F) k = two := by
  simp only [k0_pay15, shapeCast_self]; rfl
/-- This piece of row 1 is sixteen twos. -/
theorem pay16_two (k : S16.Idx) : k0_pay16 (F := F) k = two := by
  simp only [k0_pay16, shapeCast_self]; rfl
/-- This piece of row 1 is sixteen twos. -/
theorem pay17_two (k : S16.Idx) : k0_pay17 (F := F) k = two := by
  simp only [k0_pay17, shapeCast_self]; rfl
/-- This piece of row 1 is sixteen twos. -/
theorem pay29_two (k : S16.Idx) : k0_pay29 (F := F) k = two := by
  simp only [k0_pay29, shapeCast_self]; rfl
/-- This piece of row 1 is sixteen twos. -/
theorem pay30_two (k : S16.Idx) : k0_pay30 (F := F) k = two := by
  simp only [k0_pay30, shapeCast_self]; rfl
/-- This piece of row 1 is sixteen twos. -/
theorem pay31_two (k : S16.Idx) : k0_pay31 (F := F) k = two := by
  simp only [k0_pay31, shapeCast_self]; rfl
/-- This piece of row 1 is sixteen twos. -/
theorem pay32_two (k : S16.Idx) : k0_pay32 (F := F) k = two := by
  simp only [k0_pay32, shapeCast_self]; rfl
/-- This piece of row 1 is sixteen twos. -/
theorem pay33_two (k : S16.Idx) : k0_pay33 (F := F) k = two := by
  simp only [k0_pay33, shapeCast_self]; rfl
/-- This piece of row 1 is sixteen twos. -/
theorem pay34_two (k : S16.Idx) : k0_pay34 (F := F) k = two := by
  simp only [k0_pay34, shapeCast_self]; rfl
/-- This piece of row 1 is sixteen twos. -/
theorem pay35_two (k : S16.Idx) : k0_pay35 (F := F) k = two := by
  simp only [k0_pay35, shapeCast_self]; rfl
/-- This piece of row 1 is sixteen twos. -/
theorem pay28_two (k : S16.Idx) : k0_pay28 (F := F) k0_pay18 k = two := by
  simp only [k0_pay28, k0_pay18, shapeCast_self]; rfl

/-- The program's question whether this is tile 0's first trip, as it is asked. -/
theorem first_iff : ∀ (a : Fin 2) (b : Fin 16) (t : Fin k0_t1_loop.trips),
    (Scalar.cmpi .ne (Scalar.extui (Scalar.andi
      (Scalar.cmpi .eq (Scalar.addi (Scalar.muli (BitVec.ofNat 32 b.val) 2#32) (BitVec.ofNat 32 a.val)) 0#32)
      (Scalar.cmpi .eq (Scalar.muli (Scf.iv 0#32 1#32 t) 2#32) 0#32)) : BitVec 32) 0#32 = 1#1) ↔ a.val = 0 ∧ b.val = 0 ∧ t.val = 0 := by
  decide +kernel

/-- The first half waits for an earlier store in every trip but the first. -/
theorem cond1_iff : ∀ t : Fin k0_t1_loop.trips, k0_cond1 t = 1#1 ↔ 0 < t.val := by decide +kernel
/-- The first half fetches its next chunk if there is one. -/
theorem cond3_iff : ∀ t : Fin k0_t1_loop.trips, k0_cond3 t = 1#1 ↔ 2 * t.val + 2 < 32 := by decide +kernel
/-- The second half waits for an earlier store in every trip but the first. -/
theorem cond4_iff : ∀ t : Fin k0_t1_loop.trips, k0_cond4 t = 1#1 ↔ 0 < t.val := by decide +kernel
/-- The second half fetches its next chunk if there is one. -/
theorem cond5_iff : ∀ t : Fin k0_t1_loop.trips, k0_cond5 t = 1#1 ↔ 2 * t.val + 3 < 32 := by decide +kernel
/-- The outer loop's trips are sixteen at most. -/
theorem trip_lt (t : Fin k0_t1_loop.trips) : t.val < 16 := Nat.lt_of_lt_of_le t.isLt k0_t1_abs.2.1

/-! ## A trip -/

section Trip

variable (d : Dev nD) (L : grid0.Coords) (x y : Flat F)

/-- The word of the tile's number. -/
abbrev wid (L : grid0.Coords) : BitVec 32 := Scalar.addi (Scalar.muli (BitVec.ofNat 32 (L 1).val) 2#32) (BitVec.ofNat 32 (L 0).val)

/-- The invariant before trip `n`. -/
def TripInv (O : CellTallies nD τ sig (HIx 1)) (W : Waits sig (HIx 1)) (n : ℕ) (_ : Unit) : sProp 𝕄 :=
  iprop(Transfers.MayWaits (thr d L) (none : HIx 1) O ∗ OW d L O W
    ∗ inSt d L x inA cc0_scratch4.sem (2 * n) ∗ inSt d L x inB cc0_scratch5.sem (2 * n + 1)
    ∗ outSt d L x outA cc0_scratch6.sem n (2 * n - 2) ∗ outSt d L x outB cc0_scratch7.sem n (2 * n - 1)
    ∗ ahead (xc d L x) (2 * n + 2) ∗ behind (xc d L x) (2 * n)
    ∗ ahead (oc d L y) (2 * n) ∗ behind (oc d L (outVal x)) (2 * n - 2))

/-- A trip's first half and the beginning of its second, up to the wait for chunk `2 t + 1`, and for the store of the second
    output buffer: the first buffers are ready for the next trip, the second's hold their chunk or are at rest. -/
theorem trip_part (v2 : BitVec 32) (O : CellTallies nD τ sig (HIx 1)) (W : Waits sig (HIx 1)) (t : Fin k0_t1_loop.trips) :
    TripInv d L x y O W t.val ⟨⟩
      ⊢ (wp frame (wpE (defs₀ (F := F)) 𝒱₀ (thr d L) none) Set.univ
          (k0_part4 L xV (Memref.isWhole_whole _) oV (Memref.isWhole_whole _) inA (Memref.isWhole_whole _)
            inB (Memref.isWhole_whole _) outA (Memref.isWhole_whole _) outB (Memref.isWhole_whole _) cc0_scratch4 cc0_scratch5 cc0_scratch6 cc0_scratch7
            (wid L) v2 0#32 1#32 t)
          fun _ => iprop(OW d L O W ∗ inSt d L x inA cc0_scratch4.sem (2 * (t.val + 1)) ∗ Full d L inB x (cb L (2 * t.val + 1))
            ∗ semVal (thr d L, SemLoc.dma cc0_scratch5.sem) 0
            ∗ outSt d L x outA cc0_scratch6.sem (t.val + 1) (2 * t.val) ∗ Any (F := F) d L outB ∗ semVal (thr d L, SemLoc.dma cc0_scratch7.sem) 0
            ∗ ahead (xc d L x) (2 * t.val + 3) ∗ behind (xc d L x) (2 * t.val + 2)
            ∗ ahead (oc d L y) (2 * t.val + 1) ∗ behind (oc d L (outVal x)) (2 * t.val)) : sProp 𝕄) := by
  have ht := trip_lt t
  have e2 : ∀ r : Fin 2, k0_off2 L t (BitVec.ofNat 32 r.val) = ![cb L (2 * t.val + r.val)] := fun r => by
    rw [k0_off2_eq]; exact congrArg (fun n : ℕ => ![n]) (by unfold cb; omega)
  have e5 : k0_off5 L t = ![cb L (2 * t.val + 2)] := by
    rw [k0_off5_eq]; exact congrArg (fun n : ℕ => ![n]) (by unfold cb; omega)
  simp only [k0_part4_eq_skeleton]
  unfold k0_part4_skel
  unfold TripInv
  simp only [wp_bind]
  iintro ⟨#Hmw, HO, Hi0, Hi1, Ho0, Ho1, Hxa, Hxb, Hoa, Hob⟩
  iapply (wp_use d L (t_fetched d L x inA cc0_scratch4.sem (2 * t.val) (2 * t.val) rfl (by omega) credit_a)) $$ [Hi0 Hxb HO]
  · isplitl [Hi0]; · iexact Hi0
    isplitl [Hxb]; · iexact Hxb
    isplitl [HO]; · iexact HO
    iexact Hmw
  iintro %_ ⟨Hi0, Hs0, Hxb, HO⟩
  iapply (t_stored_if d L x outA cc0_scratch6.sem (2 * t.val - 2) (2 * t.val - 1) t.val (cond1_iff t) (by omega) (by omega)) $$ [Ho0 Hob HO]
  · isplitl [Ho0]; · iexact Ho0
    isplitl [Hob]; · iexact Hob
    isplitl [HO]; · iexact HO
    iexact Hmw
  iintro ⟨Ho0, Hs2, Hob, HO⟩
  rw [wp_bind]
  iapply (wp_use d L (half_a d L x (wid L) v2 0#32 1#32 t (cb L (2 * t.val)))) $$ [Hi0 Ho0]
  · isplitl [Hi0]; · iexact Hi0
    iexact Ho0
  iintro %_ ⟨Hi0, Ho0⟩
  iapply (wp_branch d L (P := Full d L outA (incVal x) (cb L (2 * t.val))) (R := Full d L outA (outVal x) (cb L (2 * t.val))) ?hrow ?hfar) $$ Ho0
  case hrow =>
    intro hh
    obtain ⟨h0, h1, h2⟩ := (first_iff (L 0) (L 1) t).mp hh
    have hcb : cb L (2 * t.val) = 0 := by unfold cb; omega
    unfold Full
    rw [hcb]
    iintro ⟨⟨%f, %hf, Ho⟩, Hk⟩
    sl_exec
    iapply Hk
    iexists _
    isplitr
    rotate_left
    · iexact Ho
    ipureintro
    intro j i hi
    refine (read_pieces outA f (withRow f) _ ?_ j ?_).trans ?_
    · simp only [List.forall_mem_cons, List.not_mem_nil, false_imp_iff, implies_true, and_true]
      refine ⟨?_, ?_, ?_, ?_, ?_, ?_, ?_, ?_, ?_, ?_, ?_, ?_, ?_, ?_, ?_, ?_⟩
      · exact row_piece f 496 _ (by decide) (by decide) _ pay35_two
      · exact row_piece f 480 _ (by decide) (by decide) _ pay34_two
      · exact row_piece f 464 _ (by decide) (by decide) _ pay33_two
      · exact row_piece f 448 _ (by decide) (by decide) _ pay32_two
      · exact row_piece f 432 _ (by decide) (by decide) _ pay31_two
      · exact row_piece f 416 _ (by decide) (by decide) _ pay30_two
      · exact row_piece f 400 _ (by decide) (by decide) _ pay29_two
      · exact row_piece f 384 _ (by decide) (by decide) _ pay28_two
      · exact row_piece f 368 _ (by decide) (by decide) _ pay17_two
      · exact row_piece f 352 _ (by decide) (by decide) _ pay16_two
      · exact row_piece f 336 _ (by decide) (by decide) _ pay15_two
      · exact row_piece f 320 _ (by decide) (by decide) _ pay14_two
      · exact row_piece f 304 _ (by decide) (by decide) _ pay13_two
      · exact row_piece f 288 _ (by decide) (by decide) _ pay12_two
      · exact row_piece f 272 _ (by decide) (by decide) _ pay11_two
      · exact row_piece f 256 _ (by decide) (by decide) _ pay10_two
    · by_cases hj : 256 ≤ (j 0).val ∧ (j 0).val < 512
      · left
        simp only [List.exists_mem_cons_iff, List.not_mem_nil, false_and, exists_false, or_false]
        rcases (by omega : (496 ≤ (j 0).val ∧ (j 0).val < 496 + 16) ∨
          (480 ≤ (j 0).val ∧ (j 0).val < 480 + 16) ∨
          (464 ≤ (j 0).val ∧ (j 0).val < 464 + 16) ∨
          (448 ≤ (j 0).val ∧ (j 0).val < 448 + 16) ∨
          (432 ≤ (j 0).val ∧ (j 0).val < 432 + 16) ∨
          (416 ≤ (j 0).val ∧ (j 0).val < 416 + 16) ∨
          (400 ≤ (j 0).val ∧ (j 0).val < 400 + 16) ∨
          (384 ≤ (j 0).val ∧ (j 0).val < 384 + 16) ∨
          (368 ≤ (j 0).val ∧ (j 0).val < 368 + 16) ∨
          (352 ≤ (j 0).val ∧ (j 0).val < 352 + 16) ∨
          (336 ≤ (j 0).val ∧ (j 0).val < 336 + 16) ∨
          (320 ≤ (j 0).val ∧ (j 0).val < 320 + 16) ∨
          (304 ≤ (j 0).val ∧ (j 0).val < 304 + 16) ∨
          (288 ≤ (j 0).val ∧ (j 0).val < 288 + 16) ∨
          (272 ≤ (j 0).val ∧ (j 0).val < 272 + 16) ∨
          (256 ≤ (j 0).val ∧ (j 0).val < 256 + 16)) with h | h | h | h | h | h | h | h | h | h | h | h | h | h | h | h
        · exact .inl (mem_sixteen _ _ 496 rfl j h.1 h.2)
        · exact .inr (.inl (mem_sixteen _ _ 480 rfl j h.1 h.2))
        · exact .inr (.inr (.inl (mem_sixteen _ _ 464 rfl j h.1 h.2)))
        · exact .inr (.inr (.inr (.inl (mem_sixteen _ _ 448 rfl j h.1 h.2))))
        · exact .inr (.inr (.inr (.inr (.inl (mem_sixteen _ _ 432 rfl j h.1 h.2)))))
        · exact .inr (.inr (.inr (.inr (.inr (.inl (mem_sixteen _ _ 416 rfl j h.1 h.2))))))
        · exact .inr (.inr (.inr (.inr (.inr (.inr (.inl (mem_sixteen _ _ 400 rfl j h.1 h.2)))))))
        · exact .inr (.inr (.inr (.inr (.inr (.inr (.inr (.inl (mem_sixteen _ _ 384 rfl j h.1 h.2))))))))
        · exact .inr (.inr (.inr (.inr (.inr (.inr (.inr (.inr (.inl (mem_sixteen _ _ 368 rfl j h.1 h.2)))))))))
        · exact .inr (.inr (.inr (.inr (.inr (.inr (.inr (.inr (.inr (.inl (mem_sixteen _ _ 352 rfl j h.1 h.2))))))))))
        · exact .inr (.inr (.inr (.inr (.inr (.inr (.inr (.inr (.inr (.inr (.inl (mem_sixteen _ _ 336 rfl j h.1 h.2)))))))))))
        · exact .inr (.inr (.inr (.inr (.inr (.inr (.inr (.inr (.inr (.inr (.inr (.inl (mem_sixteen _ _ 320 rfl j h.1 h.2))))))))))))
        · exact .inr (.inr (.inr (.inr (.inr (.inr (.inr (.inr (.inr (.inr (.inr (.inr (.inl (mem_sixteen _ _ 304 rfl j h.1 h.2)))))))))))))
        · exact .inr (.inr (.inr (.inr (.inr (.inr (.inr (.inr (.inr (.inr (.inr (.inr (.inr (.inl (mem_sixteen _ _ 288 rfl j h.1 h.2))))))))))))))
        · exact .inr (.inr (.inr (.inr (.inr (.inr (.inr (.inr (.inr (.inr (.inr (.inr (.inr (.inr (.inl (mem_sixteen _ _ 272 rfl j h.1 h.2)))))))))))))))
        · exact .inr (.inr (.inr (.inr (.inr (.inr (.inr (.inr (.inr (.inr (.inr (.inr (.inr (.inr (.inr ((mem_sixteen _ _ 256 rfl j h.1 h.2))))))))))))))))
      · right
        unfold withRow
        rw [if_neg hj]; rfl
    · have hji : (j 0).val = (i 0).val := by omega
      unfold withRow outVal
      rw [hji]
      split
      · rfl
      · exact hf j i hi
  case hfar =>
    intro hh
    refine full_far d L x outA _ ?_
    by_contra hb
    refine hh ((first_iff (L 0) (L 1) t).mpr ?_)
    unfold cb at hb
    omega
  iintro Ho0
  rw [wp_bind]
  iapply (wp_use d L (t_store d L x outA cc0_scratch6.sem set_outA y (2 * t.val) (t.val + 1) (by omega) (by omega) _ _ (e2 0))) $$ [Hoa Ho0 Hs2]
  · isplitl [Hoa]; · iexact Hoa
    isplitl [Ho0]; · iexact Ho0
    iexact Hs2
  iintro %_ ⟨Hoa, Ho0⟩
  iapply (t_fetch_if d L x inA cc0_scratch4.sem credit_a (2 * t.val + 2) (cond3_iff t) e5) $$ [Hxa Hi0 Hs0]
  · isplitl [Hxa]; · iexact Hxa
    isplitl [Hi0]; · iexact Hi0
    iexact Hs0
  iintro ⟨Hxa, Hi0⟩
  rw [wp_bind]
  iapply (wp_use d L (t_fetched d L x inB cc0_scratch5.sem (2 * t.val + 1) (2 * t.val + 1) rfl (by omega) credit_b)) $$ [Hi1 Hxb HO]
  · isplitl [Hi1]; · iexact Hi1
    isplitl [Hxb]; · iexact Hxb
    isplitl [HO]; · iexact HO
    iexact Hmw
  iintro %_ ⟨Hi1, Hs1, Hxb, HO⟩
  iapply (t_stored_if d L x outB cc0_scratch7.sem (2 * t.val - 1) (2 * t.val) t.val (cond4_iff t) (by omega) (by omega)) $$ [Ho1 Hob HO]
  · isplitl [Ho1]; · iexact Ho1
    isplitl [Hob]; · iexact Hob
    isplitl [HO]; · iexact HO
    iexact Hmw
  iintro ⟨Ho1, Hs3, Hob, HO⟩
  rw [Prog.pure_eq_ret, wp_ret]; imodintro
  isplitl [HO]; · iexact HO
  isplitl [Hi0]; · iexact Hi0
  isplitl [Hi1]; · iexact Hi1
  isplitl [Hs1]; · iexact Hs1
  isplitl [Ho0]; · iexact Ho0
  isplitl [Ho1]; · iexact Ho1
  isplitl [Hs3]; · iexact Hs3
  isplitl [Hxa]; · iexact Hxa
  isplitl [Hxb]; · iexact Hxb
  isplitl [Hoa]; · iexact Hoa
  iexact Hob

/-- A trip keeps the invariant. -/
theorem trip (v2 : BitVec 32) (O : CellTallies nD τ sig (HIx 1)) (W : Waits sig (HIx 1)) (t : Fin k0_t1_loop.trips) :
    TripInv d L x y O W t.val ⟨⟩
      ⊢ (wp frame (wpE (defs₀ (F := F)) 𝒱₀ (thr d L) none) Set.univ
          (k0_t1_body L xV (Memref.isWhole_whole _) oV (Memref.isWhole_whole _) inA (Memref.isWhole_whole _)
            inB (Memref.isWhole_whole _) outA (Memref.isWhole_whole _) outB (Memref.isWhole_whole _) cc0_scratch4 cc0_scratch5 cc0_scratch6 cc0_scratch7
            (wid L) v2 t ⟨⟩)
          fun _ => TripInv d L x y O W (t.val + 1) ⟨⟩ : sProp 𝕄) := by
  have ht := trip_lt t
  have e2 : ∀ r : Fin 2, k0_off2 L t (BitVec.ofNat 32 r.val) = ![cb L (2 * t.val + r.val)] := fun r => by
    rw [k0_off2_eq]; exact congrArg (fun n : ℕ => ![n]) (by unfold cb; omega)
  have e8 : k0_off8 L t = ![cb L (2 * t.val + 3)] := by
    rw [k0_off8_eq]; exact congrArg (fun n : ℕ => ![n]) (by unfold cb; omega)
  unfold k0_t1_body
  simp only [wp_bind]
  iintro H
  ihave #Hmw := (show TripInv d L x y O W t.val ⟨⟩ ⊢ (Transfers.MayWaits (thr d L) (none : HIx 1) O : sProp 𝕄) from by
    unfold TripInv; iintro ⟨#H, -⟩; iexact H) $$ H
  iapply (wp_use d L (trip_part d L x y v2 O W t)) $$ H
  iintro %_ ⟨HO, Hi0, Hi1, Hs1, Ho0, Ho1, Hs3, Hxa, Hxb, Hoa, Hob⟩
  iapply (wp_use d L (half_b d L x (cb L (2 * t.val + 1)))) $$ [Hi1 Ho1]
  · isplitl [Hi1]; · iexact Hi1
    iexact Ho1
  iintro %_ ⟨Hi1, Ho1⟩
  ihave Ho1 := (full_far d L x outB (cb L (2 * t.val + 1)) (by unfold cb; omega)) $$ Ho1
  iapply (wp_use d L (t_store d L x outB cc0_scratch7.sem set_outB y (2 * t.val + 1) (t.val + 1) (by omega) (by omega) _ _ (e2 1))) $$ [Hoa Ho1 Hs3]
  · isplitl [Hoa]; · iexact Hoa
    isplitl [Ho1]; · iexact Ho1
    iexact Hs3
  iintro %_ ⟨Hoa, Ho1⟩
  iapply (t_fetch_if d L x inB cc0_scratch5.sem credit_b (2 * t.val + 3) (cond5_iff t) e8) $$ [Hxa Hi1 Hs1]
  · isplitl [Hxa]; · iexact Hxa
    isplitl [Hi1]; · iexact Hi1
    iexact Hs1
  iintro ⟨Hxa, Hi1⟩
  rw [Prog.pure_eq_ret, wp_ret]; imodintro
  unfold TripInv
  isplitr; · iexact Hmw
  isplitl [HO]; · iexact HO
  isplitl [Hi0]; · iexact Hi0
  isplitl [Hi1]; · iexact Hi1
  isplitl [Ho0]; · iexact Ho0
  isplitl [Ho1]; · iexact Ho1
  isplitl [Hxa]; · iexact Hxa
  isplitl [Hxb]; · iexact Hxb
  isplitl [Hoa]; · iexact Hoa
  iexact Hob

end Trip

/-! ## A tile's whole run -/

section Run

variable (d : Dev nD) (L : grid0.Coords) (x y : Flat F)

/-- The two fetches before the loop are those of chunks 0 and 1. -/
theorem off1_eq (L : grid0.Coords) : k0_off1 L 0#32 = ![cb L 0] ∧ k0_off1 L 16384#32 = ![cb L 1] := by
  have h : ∀ i : grid0.Coords, k0_off1 i 0#32 = ![cb i 0] ∧ k0_off1 i 16384#32 = ![cb i 1] := by decide +kernel
  exact h L

/-- The outer loop takes sixteen trips. -/
theorem trips1 : k0_t1_loop.trips = 16 := by decide

/-- From its elements of the two arrays, its buffers at any contents and its semaphores at zero, a tile ends with its
    elements of the result at their value, and the rest as it was. -/
theorem tile_run (O : CellTallies nD τ sig (HIx 1)) (W : Waits sig (HIx 1)) :
    iprop(Transfers.MayWaits (thr d L) (none : HIx 1) O ∗ OW d L O W
        ∗ (xLoc d ↦[tileSet (tileNo L)]{fullShare} x) ∗ (oLoc d ↦[tileSet (tileNo L)]{fullShare} y)
        ∗ Any (F := F) d L inA ∗ Any (F := F) d L inB ∗ Any (F := F) d L outA ∗ Any (F := F) d L outB
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0)
      ⊢ (wp frame (wpE (defs₀ (F := F)) 𝒱₀ (thr d L) none) Set.univ
          (cc0__sc_add_one L xV (Memref.isWhole_whole _) oV (Memref.isWhole_whole _) inA (Memref.isWhole_whole _)
            inB (Memref.isWhole_whole _) outA (Memref.isWhole_whole _) outB (Memref.isWhole_whole _) cc0_scratch4 cc0_scratch5 cc0_scratch6 cc0_scratch7)
          fun _ => iprop(OW d L O W
            ∗ (xLoc d ↦[tileSet (tileNo L)]{fullShare} x) ∗ (oLoc d ↦[tileSet (tileNo L)]{fullShare} outVal x)
            ∗ Any (F := F) d L inA ∗ Any (F := F) d L inB ∗ Any (F := F) d L outA ∗ Any (F := F) d L outB
            ∗ semVal (thr d L, SemLoc.dma cc0_scratch4.sem) 0 ∗ semVal (thr d L, SemLoc.dma cc0_scratch5.sem) 0
            ∗ semVal (thr d L, SemLoc.dma cc0_scratch6.sem) 0 ∗ semVal (thr d L, SemLoc.dma cc0_scratch7.sem) 0) : sProp 𝕄) := by
  simp only [cc0__sc_add_one_eq_skeleton]
  unfold cc0__sc_add_one_skel
  have hx : behind (xc d L x) 32 = iprop(xc d L x 0 ∗ xc d L x 1 ∗ ahead (xc d L x) 2) := by
    rw [← ahead_succ (xc d L x) (by omega : 1 < 32), ← ahead_succ (xc d L x) (by omega : 0 < 32)]
    unfold ahead behind; rw [Finset.range_eq_Ico]
  rw [show (xLoc d ↦[tileSet (tileNo L)]{fullShare} x : sProp 𝕄) = behind (xc d L x) 32 from x_chunks d L x,
    show (oLoc d ↦[tileSet (tileNo L)]{fullShare} y : sProp 𝕄) = ahead (oc d L y) 0 from (o_chunks d L y).trans (by unfold ahead; rw [Finset.range_eq_Ico]; rfl),
    show (oLoc d ↦[tileSet (tileNo L)]{fullShare} outVal x : sProp 𝕄) = behind (oc d L (outVal x)) 32 from o_chunks d L (outVal x)]
  simp only [wp_bind]
  iintro ⟨#Hmw, HO, Hx, Hoa, Hi0, Hi1, Ho0, Ho1, Hs0, Hs1, Hs2, Hs3⟩
  ihave Hx := (Entails.of_eq hx) $$ Hx
  icases Hx with ⟨Hx0, Hx1, Hxa⟩
  iapply (wp_use d L (t_fetch d L x inA cc0_scratch4.sem credit_a 0 (by omega) _ _ (off1_eq L).1)) $$ [Hx0 Hi0 Hs0]
  · isplitl [Hx0]; · iexact Hx0
    isplitl [Hi0]; · iexact Hi0
    iexact Hs0
  iintro %_ Hi0
  iapply (wp_use d L (t_fetch d L x inB cc0_scratch5.sem credit_b 1 (by omega) _ _ (off1_eq L).2)) $$ [Hx1 Hi1 Hs1]
  · isplitl [Hx1]; · iexact Hx1
    isplitl [Hi1]; · iexact Hi1
    iexact Hs1
  iintro %_ Hi1
  sl_for (TripInv (F := F) d L x y O W) $$ [HO Hi0 Hi1 Ho0 Ho1 Hs2 Hs3 Hxa Hoa]
  · intro t acc
    exact trip d L x y _ O W t
  isplitl [HO Hi0 Hi1 Ho0 Ho1 Hs2 Hs3 Hxa Hoa]
  · unfold TripInv outSt
    rw [if_neg (Nat.lt_irrefl 0), if_neg (Nat.lt_irrefl 0), behind_zero, behind_zero]
    isplitr; · iexact Hmw
    isplitl [HO]; · iexact HO
    isplitl [Hi0]; · iexact Hi0
    isplitl [Hi1]; · iexact Hi1
    isplitl [Ho0 Hs2]
    · isplitl [Ho0]; · iexact Ho0
      iexact Hs2
    isplitl [Ho1 Hs3]
    · isplitl [Ho1]; · iexact Ho1
      iexact Hs3
    isplitl [Hxa]; · iexact Hxa
    isplitr; · iempintro
    isplitl [Hoa]; · iexact Hoa
    iempintro
  iintro %acc H
  rw [show Scf.trips k0_t1_loop.lb k0_t1_loop.ub k0_t1_loop.st = 16 from trips1]
  unfold TripInv
  icases H with ⟨-, HO, Hi0, Hi1, Ho0, Ho1, -, Hx, -, Hob⟩
  ihave Hi0 := (Entails.of_eq (show inSt d L x inA cc0_scratch4.sem (2 * 16) = (iprop(Any (F := F) d L inA ∗ semVal (thr d L, SemLoc.dma cc0_scratch4.sem) 0) : sProp 𝕄) from if_neg (by omega))) $$ Hi0
  ihave Hi1 := (Entails.of_eq (show inSt d L x inB cc0_scratch5.sem (2 * 16 + 1) = (iprop(Any (F := F) d L inB ∗ semVal (thr d L, SemLoc.dma cc0_scratch5.sem) 0) : sProp 𝕄) from if_neg (by omega))) $$ Hi1
  icases Hi0 with ⟨Hi0, Hs0⟩
  icases Hi1 with ⟨Hi1, Hs1⟩
  iapply (wp_use d L (t_stored d L x outA cc0_scratch6.sem (2 * 16 - 2) 16 (by omega))) $$ [Ho0 Hob HO]
  · isplitl [Ho0]; · iexact Ho0
    isplitl [Hob]; · iexact Hob
    isplitl [HO]; · iexact HO
    iexact Hmw
  iintro %_ ⟨Ho0, Hs2, Hob, HO⟩
  iapply (wp_use d L (t_stored d L x outB cc0_scratch7.sem (2 * 16 - 1) 16 (by omega))) $$ [Ho1 Hob HO]
  · isplitl [Ho1]; · iexact Ho1
    isplitl [Hob]; · iexact Hob
    isplitl [HO]; · iexact HO
    iexact Hmw
  iintro %_ ⟨Ho1, Hs3, Hob, HO⟩
  rw [Prog.pure_eq_ret, wp_ret]; imodintro
  isplitl [HO]; · iexact HO
  isplitl [Hx]; · iexact Hx
  isplitl [Hob]; · iexact Hob
  isplitl [Hi0]; · iexact Hi0
  isplitl [Hi1]; · iexact Hi1
  isplitl [Ho0]; · iexact Ho0
  isplitl [Ho1]; · iexact Ho1
  isplitl [Hs0]; · iexact Hs0
  isplitl [Hs1]; · iexact Hs1
  isplitl [Hs2]; · iexact Hs2
  iexact Hs3

end Run

end Cert.Proof.AddOne

end
-- ==== Proof.Tasks.lean ====
/-
  The tiles' tasks as the launch asks for them. Each SparseCore is handed its elements of the flat argument and of the
  flat result, each of its tiles the tile's elements of both; what comes back is the same elements, the result's at the
  value. The task is the tile's run (Tile.lean) between the launch's accounting of a tile's buffers and semaphores.
-/
module

public import proofs.«01_k».proof.Proof.Tile

@[expose] public section

noncomputable section

namespace Cert.Proof.AddOne

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The launch theorem's side facts about the handshake semaphores and the buffers' owners. -/
theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

variable (m : (ℓ : Loc nD τ sig) → Buf (Elt F) ℓ)

/-- The flat argument: what the first reshape leaves. -/
def flatArg (d : Dev nD) : Flat F := shapeCast S16777216 (m (aLoc d)) shapeCasts_S65536x256_S16777216

/-- The elements `I` of the two flat arrays, the result's at `f`. -/
abbrev Both (d : Dev nD) (I : Finset S16777216.Idx) (f : Flat F) : sProp 𝕄 :=
  iprop((xLoc d ↦[I]{fullShare} flatArg m d) ∗ oLoc d ↦[I]{fullShare} f)

/-- What the handshakes carry: a SparseCore's elements there and back, and a tile's. -/
def P : (K (F := F)).Pay (nD := nD) (Val := Elt F) (Name := ℕ) (U := UU) where
  st := fun _ d c => Both m d (coreSet c.val) (m (oLoc d))
  dn := fun _ d c => Both m d (coreSet c.val) (outVal (flatArg m d))
  go := fun _ d c i => Both m d (tileSet (2 * i.val + c.val)) (m (oLoc d))
  td := fun _ d c i => Both m d (tileSet (2 * i.val + c.val)) (outVal (flatArg m d))
  x := fun _ _ => iprop(emp)

instance P_storable : (P (F := F) m).IsStorable where
  st _ d c := (inferInstance : BI.Storable (upEmb : UEmb _ 𝕄) (Both m d (coreSet c.val) (m (oLoc d))))
  dn _ d c := (inferInstance : BI.Storable (upEmb : UEmb _ 𝕄) (Both m d (coreSet c.val) (outVal (flatArg m d))))
  go _ d c i := (inferInstance : BI.Storable (upEmb : UEmb _ 𝕄) (Both m d (tileSet (2 * i.val + c.val)) (m (oLoc d))))
  td _ d c i := (inferInstance : BI.Storable (upEmb : UEmb _ 𝕄) (Both m d (tileSet (2 * i.val + c.val)) (outVal (flatArg m d))))

/-! ## A tile's own buffers and semaphores -/

section Task

variable (d : Dev nD) (L : grid0.Coords)

/-- A copy semaphore of the tile, as a cell. -/
abbrev cell (s : DmaSem sig) : GSem nD τ sig := (thr d L, SemLoc.dma s)

omit [FloatOps F] in
/-- The tile's semaphores at zero are its four copy semaphores at zero and the rest. -/
theorem tile_sems : ∃ R : sProp 𝕄, (ownSems0 (thr d L) : sProp 𝕄)
    = iprop(semVal (cell d L cc0_scratch4.sem) 0 ∗ semVal (cell d L cc0_scratch5.sem) 0
        ∗ semVal (cell d L cc0_scratch6.sem) 0 ∗ semVal (cell d L cc0_scratch7.sem) 0 ∗ R) := by
  have mem (s : DmaSem sig) (h : (SemLoc.dma s : SemLoc sig).isScoped .scVector = true) : cell d L s ∈ ownCells (thr d L) :=
    mem_ownCells.mpr ⟨rfl, h⟩
  have ne (s s' : DmaSem sig) (h : (SemLoc.dma s : SemLoc sig) ≠ SemLoc.dma s') : cell d L s ≠ cell d L s' := fun e => h (Prod.mk.inj e).2
  refine ⟨bigSep (((((ownCells (thr d L)).erase (cell d L cc0_scratch4.sem)).erase (cell d L cc0_scratch5.sem)).erase
    (cell d L cc0_scratch6.sem)).erase (cell d L cc0_scratch7.sem)) fun g => semVal g 0, ?_⟩
  unfold SparseCore.Cfg.ownSems0
  rw [SparseCore.bigSep_erase' (mem cc0_scratch4.sem (by decide)),
    SparseCore.bigSep_erase' (Finset.mem_erase.mpr ⟨ne cc0_scratch5.sem cc0_scratch4.sem (by decide), mem cc0_scratch5.sem (by decide)⟩),
    SparseCore.bigSep_erase' (Finset.mem_erase.mpr ⟨ne cc0_scratch6.sem cc0_scratch5.sem (by decide), Finset.mem_erase.mpr
      ⟨ne cc0_scratch6.sem cc0_scratch4.sem (by decide), mem cc0_scratch6.sem (by decide)⟩⟩),
    SparseCore.bigSep_erase' (Finset.mem_erase.mpr ⟨ne cc0_scratch7.sem cc0_scratch6.sem (by decide), Finset.mem_erase.mpr
      ⟨ne cc0_scratch7.sem cc0_scratch5.sem (by decide), Finset.mem_erase.mpr
        ⟨ne cc0_scratch7.sem cc0_scratch4.sem (by decide), mem cc0_scratch7.sem (by decide)⟩⟩⟩)]

omit [FloatOps F] in
/-- The tile's own buffers are its four chunk buffers, at some contents, and the rest. -/
theorem tile_bufs : ∃ R : sProp 𝕄, (ownBufs (thr d L) : sProp 𝕄)
    = iprop(Any (F := F) d L inA ∗ Any (F := F) d L inB ∗ Any (F := F) d L outA ∗ Any (F := F) d L outB ∗ R) := by
  have mem (b : Ref sig .scVector) (h : ((Proc.scVector (cV L) (jV L)).devRef b).owner = .proc (.scVector (cV L) (jV L))) :
      (Proc.scVector (cV L) (jV L)).devRef b ∈ ownRefs (τ := τ) (sig := sig) (.scVector (cV L) (jV L)) :=
    SparseCore.Cfg.mem_ownRefs_of_owner h
  have ne (b b' : Ref sig .scVector) (h : b ≠ b') : (Proc.scVector (cV L) (jV L)).devRef b ≠ (Proc.scVector (cV L) (jV L)).devRef b' :=
    fun e => h (Proc.devRef_injective _ e)
  refine ⟨bigSep (((((ownRefs (τ := τ) (sig := sig) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)) fun b => iprop(∃ f, ((d, b) : Loc nD τ sig) ↦{fullShare} f), ?_⟩
  unfold SparseCore.Cfg.ownBufs
  refine (SparseCore.bigSep_erase' (mem cc0_scratch0 rfl)).trans ?_
  rw [SparseCore.bigSep_erase' (Finset.mem_erase.mpr ⟨ne cc0_scratch1 cc0_scratch0 (by decide), mem cc0_scratch1 rfl⟩),
    SparseCore.bigSep_erase' (Finset.mem_erase.mpr ⟨ne cc0_scratch2 cc0_scratch1 (by decide), Finset.mem_erase.mpr
      ⟨ne cc0_scratch2 cc0_scratch0 (by decide), mem cc0_scratch2 rfl⟩⟩),
    SparseCore.bigSep_erase' (Finset.mem_erase.mpr ⟨ne cc0_scratch3 cc0_scratch2 (by decide), Finset.mem_erase.mpr
      ⟨ne cc0_scratch3 cc0_scratch1 (by decide), Finset.mem_erase.mpr
        ⟨ne cc0_scratch3 cc0_scratch0 (by decide), mem cc0_scratch3 rfl⟩⟩⟩)]
  rfl

/-- The task of the tile at `L`: from its elements of the two arrays, its buffers and its semaphores, to the elements of
    the result at the value, all else as it was. -/
theorem task (hF : (K (F := F)).Facts) (O : CellTallies nD τ sig (HIx 1)) (W : Waits sig (HIx 1)) (hO : ∀ g, O g none = 0) :
    iprop(levAts (K (F := F)).L (K (F := F)).lev ∗ emp ∗ Both m d (tileSet (tileNo L)) (m (oLoc d))
        ∗ scopedBufs (thr d L) ∗ scopedSems0 (thr d L) ∗ owes (thr d L) O W)
      ⊢ (wp frame (wpE (defs₀ (F := F)) 𝒱₀ (thr d L) none) Set.univ
          (cc0__sc_add_one L xV (Memref.isWhole_whole _) oV (Memref.isWhole_whole _) inA (Memref.isWhole_whole _)
            inB (Memref.isWhole_whole _) outA (Memref.isWhole_whole _) outB (Memref.isWhole_whole _) cc0_scratch4 cc0_scratch5 cc0_scratch6 cc0_scratch7)
          fun _ => iprop(Both m d (tileSet (tileNo L)) (outVal (flatArg m d))
            ∗ scopedBufs (thr d L) ∗ scopedSems0 (thr d L)
            ∗ ∃ W', ⌜∀ p ∈ W', p ∈ W ∨ p.2 = none ∨ p.2 = some 0⌝ ∗ owes (thr d L) O W') : sProp 𝕄) := by
  obtain ⟨Rs, hRs⟩ := tile_sems (F := F) d L
  obtain ⟨Rb, hRb⟩ := tile_bufs (F := F) d L
  rw [(K (F := F)).scopedBufs_V hF d (cV L) (jV L), SparseCore.Cfg.scopedSems0_V (Val := Elt F) d (cV L) (jV L)]
  rw [show ownSems0 (V d (cV L) (jV L)) = _ from hRs, show ownBufs (V d (cV L) (jV L)) = _ from hRb]
  iintro ⟨#Hlv, -, ⟨Hx, Ho⟩, ⟨Ha, Hb, Hc, He, HRb⟩, ⟨H4, H5, H6, H7, HRs⟩, HO⟩
  ihave Hmw := (show levAts (K (F := F)).L (K (F := F)).lev ⊢ Transfers.MayWaits (thr d L) (none : HIx 1) O from
    (K (F := F)).mayWaits_none (thr := thr d L) hO) $$ Hlv
  ihave HO' := (OW_intro (F := F) d L O W) $$ HO
  iapply (wp_use d L (tile_run d L (flatArg m d) (m (oLoc d)) O W)) $$ [Hx Ho Ha Hb Hc He H4 H5 H6 H7 HO' Hmw]
  · isplitl [Hmw]; · iexact Hmw
    isplitl [HO']; · iexact HO'
    isplitl [Hx]; · iexact Hx
    isplitl [Ho]; · iexact Ho
    isplitl [Ha]; · iexact Ha
    isplitl [Hb]; · iexact Hb
    isplitl [Hc]; · iexact Hc
    isplitl [He]; · iexact He
    isplitl [H4]; · iexact H4
    isplitl [H5]; · iexact H5
    isplitl [H6]; · iexact H6
    iexact H7
  iintro %_ ⟨HO, Hx, Ho, Ha, Hb, Hc, He, H4, H5, H6, H7⟩
  isplitl [Hx Ho]
  · isplitl [Hx]; · iexact Hx
    iexact Ho
  isplitl [Ha Hb Hc He HRb]
  · isplitl [Ha]; · iexact Ha
    isplitl [Hb]; · iexact Hb
    isplitl [Hc]; · iexact Hc
    isplitl [He]; · iexact He
    iexact HRb
  isplitl [H4 H5 H6 H7 HRs]
  · isplitl [H4]; · iexact H4
    isplitl [H5]; · iexact H5
    isplitl [H6]; · iexact H6
    isplitl [H7]; · iexact H7
    iexact HRs
  unfold OW
  icases HO with ⟨%W', %hW', HO⟩
  iexists W'
  isplitr
  · ipureintro; exact fun p hp => (hW' p hp).imp_right Or.inl
  · iexact HO

end Task

/-! ## The launch theorem's two obligations -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile is set to run is the kernel's body at that tile's coordinates. -/
theorem defs₀_vector (c : Fin τ.nSC) (s : Fin τ.nSub) :
    defs₀ (F := F) (.scVector c s) 0 ()
      = SparseCore.onTile hcore0 hsub0 (fun c s => cc0__sc_add_one (coordsV c s) xV (Memref.isWhole_whole _) oV (Memref.isWhole_whole _)
          inA (Memref.isWhole_whole _) inB (Memref.isWhole_whole _) outA (Memref.isWhole_whole _) outB (Memref.isWhole_whole _)
          cc0_scratch4 cc0_scratch5 cc0_scratch6 cc0_scratch7) ⟨⟩ c s := rfl

set_option maxRecDepth 16384 in
/-- Every tile's task does what the handshakes say. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task m d (coordsV ⟨_, hci.1⟩ ⟨_, hci.2⟩) facts O W hO

/-- A SparseCore's elements are dealt out to its tiles, and come back together. -/
theorem vecSplit : (K (F := F)).VecSplit' (P m) 0 := by
  intro d c
  have hc : c.val < 2 := c.isLt
  have key (f : Flat F) : (Both m d (coreSet c.val) f : sProp 𝕄) = bigSep Finset.univ fun i : Fin 16 => Both m d (tileSet (2 * i.val + c.val)) f := by
    rw [bigSep_sep']
    exact congrArg₂ (fun A B : sProp 𝕄 => iprop(A ∗ B)) (x_tiles d c.val hc (flatArg m d)) (o_tiles d c.val hc f)
  show (Both m d (coreSet c.val) (m (oLoc d)) : sProp 𝕄) ⊢ |={Set.univ}=> iprop(
      (bigSep Finset.univ fun i : Fin 16 => Both m d (tileSet (2 * i.val + c.val)) (m (oLoc d)))
      ∗ ((bigSep Finset.univ fun i : Fin 16 => Both m d (tileSet (2 * i.val + c.val)) (outVal (flatArg m d)))
          -∗ Both m d (coreSet c.val) (outVal (flatArg m d))))
  rw [← key, ← key]
  iintro H; imodintro
  isplitl [H]; · iexact H
  iintro H; iexact H

end Cert.Proof.AddOne

end
-- ==== Proof.Launch.lean ====
/-
  The kernel program's run: the host flattens the argument, the one SparseCore call fills the flat result, the host
  gives it the argument's shape. Ends with every device's result at the value, its argument unchanged and every
  semaphore counter at zero, for any float values.
-/
module

public import proofs.«01_k».proof.Proof.Tasks

@[expose] public section

noncomputable section

namespace Cert.Proof.AddOne

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The result: the flat result at the argument's shape. -/
def result (d : Dev nD) : S65536x256.Idx → F .f32 := shapeCast S65536x256 (outVal (flatArg m d)) shapeCasts_S16777216_S65536x256

/-! ## The launch's ghost state -/

/-- The launch's ghost state: the handshakes' first round, and no transfer counted yet. -/
def u₀ : UU := (initOf (K (F := F)).hsCells (K (F := F)).hsToks, 1)

/-- The launch's ghost element gives the handshakes' rounds; no thread needs more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none_left {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_left]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_left]
  iempintro

/-! ## The host's arrays -/

abbrev aR : DevRef τ sig := Proc.devRef .tc (main_arg0 : Ref sig .tc)
abbrev xR : DevRef τ sig := Proc.devRef .tc (main_v0 : Ref sig .tc)
abbrev oR : DevRef τ sig := Proc.devRef .tc (main_v1 : Ref sig .tc)
abbrev rR : DevRef τ sig := Proc.devRef .tc (main_v2 : Ref sig .tc)
abbrev all : Finset (DevRef τ sig) := {aR, xR, oR, rR}

/-- The two host operations. -/
abbrev opFlat : HloOp τ sig (Elt F) := StableHlo.reshape main_arg0 main_v0 (rfl : (.f32 : EltTy) = .f32) shapeCasts_S65536x256_S16777216
abbrev opBack : HloOp τ sig (Elt F) := StableHlo.reshape main_v1 main_v2 (rfl : (.f32 : EltTy) = .f32) shapeCasts_S16777216_S65536x256

omit [FloatOps F] in
/-- The four arrays at a valuation, one by one. -/
theorem held_all (d : Dev nD) (W : Valuation τ sig (Elt F)) :
    (held (T d) all W : sProp 𝕄) = iprop((aLoc d ↦{fullShare} W aR) ∗ (xLoc d ↦{fullShare} W xR) ∗ (oLoc d ↦{fullShare} W oR) ∗ rLoc d ↦{fullShare} W rR) := by
  unfold held all
  rw [SparseCore.bigSep_insert' (by decide), SparseCore.bigSep_insert' (by decide), SparseCore.bigSep_insert' (by decide), bigSep_singleton]

omit [FloatOps F] in
/-- The arrays that outlive a kernel are those four. -/
theorem unscoped_all (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch. -/
def V0 (d : Dev nD) : Valuation τ sig (Elt F) := fun b => m (d, b)

omit [FloatOps F] in
/-- What the launch hands the host is the four arrays as they were in memory. -/
theorem unscoped_held (d : Dev nD) : (unscopedBufs d (fun b => m ((SparseCore.T d).loc b)) : sProp 𝕄) = held (T d) all (V0 m d) := by
  rw [unscoped_all, held_all]; rfl

/-- The arrays after the first reshape. -/
def V1 (d : Dev nD) : Valuation τ sig (Elt F) := (opFlat (F := F)).result (V0 m d)
/-- After the call: the flat result at its value. -/
def V2 (d : Dev nD) : Valuation τ sig (Elt F) := Function.update (V1 m d) oR (outVal (flatArg m d))
/-- At the end: the result reshaped from it. -/
def V3 (d : Dev nD) : Valuation τ sig (Elt F) := (opBack (F := F)).result (V2 m d)

/-- The first reshape changes nothing but the flat argument. -/
theorem V1_of_ne (d : Dev nD) (b : DevRef τ sig) (h : b ≠ xR) : V1 m d b = m (d, b) :=
  (opFlat (F := F)).result_of_not_mem (V0 m d) (fun e => h (Finset.mem_singleton.mp e))
/-- It makes the flat argument the argument's elements in order. -/
theorem V1_x (d : Dev nD) : V1 m d xR = flatArg m d := StableHlo.reshape_result main_arg0 main_v0 _ _ _ _ (V0 m d)
/-- After the call the flat result holds the value. -/
theorem V2_o (d : Dev nD) : V2 m d oR = outVal (flatArg m d) := Function.update_self _ _ _
/-- The call changes nothing but the flat result. -/
theorem V2_of_ne (d : Dev nD) (b : DevRef τ sig) (h : b ≠ oR) : V2 m d b = V1 m d b := Function.update_of_ne h _ _
/-- The last reshape changes nothing but the result. -/
theorem V3_of_ne (d : Dev nD) (b : DevRef τ sig) (h : b ≠ rR) : V3 m d b = V2 m d b :=
  (opBack (F := F)).result_of_not_mem (V2 m d) (fun e => h (Finset.mem_singleton.mp e))
/-- It makes the result the value in rows. -/
theorem V3_r (d : Dev nD) : V3 m d rR = result m d := by
  refine (StableHlo.reshape_result main_v1 main_v2 _ _ _ _ (V2 m d)).trans ?_
  show (fun i => shapeCast S65536x256 (V2 m d oR) shapeCasts_S16777216_S65536x256 i) = result m d
  rw [V2_o]; rfl

/-- The arrays after the first reshape, one by one. -/
theorem held_one (d : Dev nD) : (held (T d) all ((opFlat (F := F)).result (V0 m d)) : sProp 𝕄)
    = iprop((aLoc d ↦{fullShare} m (aLoc d)) ∗ (xLoc d ↦{fullShare} flatArg m d) ∗ (oLoc d ↦{fullShare} m (oLoc d)) ∗ rLoc d ↦{fullShare} m (rLoc d)) := by
  rw [held_all]
  rw [show (opFlat (F := F)).result (V0 m d) = V1 m d from rfl, V1_x, V1_of_ne m d aR (by decide), V1_of_ne m d oR (by decide), V1_of_ne m d rR (by decide)]
/-- The arrays after the call, one by one. -/
theorem held_two (d : Dev nD) : (held (T d) all (V2 m d) : sProp 𝕄)
    = iprop((aLoc d ↦{fullShare} m (aLoc d)) ∗ (xLoc d ↦{fullShare} flatArg m d) ∗ (oLoc d ↦{fullShare} outVal (flatArg m d)) ∗ rLoc d ↦{fullShare} m (rLoc d)) := by
  rw [held_all, V2_o, V2_of_ne m d aR (by decide), V2_of_ne m d xR (by decide), V2_of_ne m d rR (by decide), V1_x,
    V1_of_ne m d aR (by decide), V1_of_ne m d rR (by decide)]
/-- The arrays at the end, one by one. -/
theorem held_three (d : Dev nD) : (held (T d) all ((opBack (F := F)).result (V2 m d)) : sProp 𝕄)
    = iprop((aLoc d ↦{fullShare} m (aLoc d)) ∗ (xLoc d ↦{fullShare} V3 m d xR) ∗ (oLoc d ↦{fullShare} V3 m d oR) ∗ rLoc d ↦{fullShare} result m d) := by
  rw [held_all]
  rw [show (opBack (F := F)).result (V2 m d) = V3 m d from rfl, V3_r, V3_of_ne m d aR (by decide), V2_of_ne m d aR (by decide), V1_of_ne m d aR (by decide)]

/-! ## The host's program -/

/-- The whole of the two flat arrays is the two SparseCores' elements. -/
theorem both_cores (d : Dev nD) (f : Flat F) :
    (iprop((xLoc d ↦{fullShare} flatArg m d) ∗ oLoc d ↦{fullShare} f) : sProp 𝕄) = bigSep Finset.univ fun c : Fin 2 => Both m d (coreSet c.val) f := by
  rw [bigSep_sep']
  exact congrArg₂ (fun A B : sProp 𝕄 => iprop(A ∗ B)) (x_cores d (flatArg m d)) (o_cores d f)

/-- What the call hands the SparseCores is the whole of the two flat arrays, the result as it was. -/
theorem st_all (d : Dev nD) : (bigSep Finset.univ fun c : Fin ((K (F := F)).nCore 0) => (P m).st 0 d c)
    = (iprop((xLoc d ↦{fullShare} flatArg m d) ∗ oLoc d ↦{fullShare} m (oLoc d)) : sProp 𝕄) := (both_cores m d (m (oLoc d))).symm
/-- What they hand back is the same with the result at its value. -/
theorem dn_all (d : Dev nD) : (bigSep Finset.univ fun c : Fin ((K (F := F)).nCore 0) => (P m).dn 0 d c)
    = (iprop((xLoc d ↦{fullShare} flatArg m d) ∗ oLoc d ↦{fullShare} outVal (flatArg m d)) : sProp 𝕄) := (both_cores m d (outVal (flatArg m d))).symm

/-- What the host's program ends with: the argument unchanged, the result at the value. -/
abbrev FIN (d : Dev nD) : sProp 𝕄 := iprop((aLoc d ↦{fullShare} m (aLoc d)) ∗ rLoc d ↦{fullShare} result m d)

/-- The first reshape touches none but the four arrays. -/
theorem flat_sub : (opFlat (F := F)).bufs ⊆ all := show ({aR, xR} : Finset (DevRef τ sig)) ⊆ all by decide
/-- Nor does the last. -/
theorem back_sub : (opBack (F := F)).bufs ⊆ all := show ({oR, rR} : Finset (DevRef τ sig)) ⊆ all by decide

/-- The host's program, from its arrays as the launch gives them: it reshapes, hands the flat arrays to the SparseCores,
    takes them back, reshapes again, and ends with the argument unchanged and the result at the value. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := all) flat_sub (V := V0 m d)) $$ [Hb Hheld]
  · isplitl [Hb]; · iexact Hb
    iexact Hheld
  iintro ⟨Hb, Hheld⟩
  ihave Hh := (Entails.of_eq (held_one (F := F) m d)) $$ Hheld
  icases Hh with ⟨Ha, Hx, Ho, Hr⟩
  rw [wp_ret]; imodintro
  iapply ((K (F := F)).wp_run (D (F := F)) 𝒱 (EH := EH) (P := P m) κ d 0) $$ [Hst Ha Hx Ho Hr Hb Hts]
  isplitr; · iexact Hctx
  isplitl [Hst]; · iexact Hst
  isplitl [Hx Ho]
  · rw [st_all]
    isplitl [Hx]; · iexact Hx
    iexact Ho
  iintro ⟨Hst, Hdn⟩
  ihave Hdn' := (Entails.of_eq (dn_all m d)) $$ Hdn
  icases Hdn' with ⟨Hx, Ho⟩
  iapply (wp_hlo_within 𝒱 (SparseCore.T d) none Set.univ (op := opBack) (S := all) back_sub (V := V2 m d)) $$ [Hb Ha Hx Ho Hr]
  · isplitl [Hb]; · iexact Hb
    rw [held_two]
    isplitl [Ha]; · iexact Ha
    isplitl [Hx]; · iexact Hx
    isplitl [Ho]; · iexact Ho
    iexact Hr
  iintro ⟨Hb, Hheld⟩
  ihave Hh := (Entails.of_eq (held_three (F := F) m d)) $$ Hheld
  icases Hh with ⟨Ha, -, -, Hr⟩
  rw [wp_ret]; imodintro; imodintro
  isplitl [Hst]; · iexact Hst
  isplitr [Hb Hts]
  · isplitl [Ha]; · iexact Ha
    iexact Hr
  isplitl [Hb] <;> iassumption

/-- What a device's memory ends with. -/
def Ends (d : Dev nD) (s' : Phys nD τ sig (Elt F)) : Prop := s'.mem.mem (aLoc d) = m (aLoc d) ∧ s'.mem.mem (rLoc d) = result m d

set_option maxRecDepth 16384 in
/-- What the host's program ends with says what memory holds. -/
theorem hfin (d : Dev nD) (s' : Phys nD τ sig (Elt F)) : iprop(FIN m d ∗ SI s') ⊢ (⌜Ends m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

/-- What the run ends with: each device's argument unchanged, its result at the value, every counter at zero. -/
def RunEnds : PUnit × MemSt nD τ sig (Elt F) → Prop := fun r =>
  (∀ d : Dev nD, r.2.mem (aLoc d) = m (aLoc d) ∧ r.2.mem (rLoc d) = result m d) ∧ r.2.sem = fun _ => 0

/-- Every weakly fair execution of the kernel program ends so, for any float values. -/
theorem run_main [∀ e, Nonempty (Elt F e)] :
    θ_run (Cert.KernelIdeal.defs (F := F)) (Cert.KernelIdeal.threads (F := F)) ⟨m, fun _ => 0, ρ⟩ (RunEnds m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (Ends m) (hfin m) (RunEnds m) (fun _ h hz => ⟨h, hz⟩)

end Cert.Proof.AddOne

end
-- ==== Proof.Ref.lean ====
/-
  The reference program: row 1 set to 1.0, then 1.0 added everywhere. Where its one scatter writes, and that what it ends
  with is, over the extended reals, 2.0 on row 1 and the argument and one elsewhere.
-/
module

public import proofs.«01_k».proof.Proof.Gen.ReferenceIdeal.Run
public import Idealize.ShloMosaic.Lib.Routing.OpsSet
public import Idealize.ShloMosaic.Lib.Routing.OpsPair
public import Idealize.ShloMosaic.Lib.IdealHost

@[expose] public section

noncomputable section

namespace Cert.Proof.RowOne

open Cert.ReferenceIdeal Cert.ReferenceIdeal.Gen Idealize.ShloMosaic
open Idealize.ShloMosaic.Routing (resultIdx?_eq_some scatter_set_hit scatter_set_miss)

/-- The scatter's dimension numbers, its one index word (the row, 1) and its update (a row of ones). -/
abbrev dims : ScatterDims S65536x256 S1 S256 := scatter_S65536x256_S1_S256_0_0_0_0
abbrev row : IVec S1 32 := broadcastInDim S1 ![] bcast_S_S1 (constantI S_ 32 1#32)
abbrev ones : FVec (F := Ideal) S256 .f32 := broadcastInDim S256 ![] bcast_S_S256 (constant S_ .f32 0x3F800000#32)

/-- The update's window starts at row 1. -/
theorem start_rows (j : S256.Idx) : dims.start j row 0 = 1 := rfl
/-- It starts at column 0. -/
theorem start_columns (j : S256.Idx) : dims.start j row 1 = 0 := rfl
/-- Element `j` of the update lies in its window's row 0. -/
theorem window_rows (j : S256.Idx) : dims.window j 0 = 0 := rfl
/-- Element `j` of the update lies in its window's column `j`. -/
theorem window_columns (j : S256.Idx) : dims.window j 1 = (j 0).val := rfl

/-- Element `j` of the update lands at row 1, column `j`. -/
theorem lands (j : S256.Idx) (i : S65536x256.Idx) : dims.resultIdx? j row = some i ↔ (i 0).val = 1 ∧ (i 1).val = (j 0).val := by
  rw [resultIdx?_eq_some]
  constructor
  · intro h
    have h0 := h 0
    have h1 := h 1
    rw [start_rows, window_rows] at h0
    rw [start_columns, window_columns] at h1
    omega
  · rintro ⟨h0, h1⟩ a
    match a with
    | ⟨0, _⟩ => show dims.start j row 0 + (dims.window j 0 : Int) = ((i 0).val : Int); rw [start_rows, window_rows]; omega
    | ⟨1, _⟩ => show dims.start j row 1 + (dims.window j 1 : Int) = ((i 1).val : Int); rw [start_columns, window_columns]; omega

/-- The scatter writes one on row 1 and nothing elsewhere. -/
theorem scattered (a : FVec (F := Ideal) S65536x256 .f32) (i : S65536x256.Idx) :
    Host.scatter dims (fun _ b => b) a row ones i = if (i 0).val = 1 then (1 : EReal) else a i := by
  have hone : ∀ k, ones k = (1 : EReal) := fun k => Idealize.ShloMosaic.Ideal.ofBits_one_f32
  by_cases h : (i 0).val = 1
  · rw [if_pos h]
    exact scatter_set_hit dims a row ones i (1 : EReal) (fun k _ => hone k) (fun a => match a with | ⟨0, _⟩ => ⟨(i 1).val, (i 1).isLt⟩) ((lands _ i).2 ⟨h, rfl⟩)
  · rw [if_neg h]
    exact scatter_set_miss dims a row ones i (fun k hk => h ((lands k i).1 hk).1)

/-- What the reference computes of its argument. -/
def value (a : FVec (F := Ideal) S65536x256 .f32) : FVec (F := Ideal) S65536x256 .f32 :=
  addf (Host.scatter dims (fun _ b => b) a row ones) (broadcastInDim S65536x256 ![] bcast_S_S65536x256 (constant S_ .f32 0x3F800000#32))

/-- Its entries: 2 on row 1, the argument's and 1 elsewhere. -/
theorem value_entry (a : FVec (F := Ideal) S65536x256 .f32) (i : S65536x256.Idx) :
    value a i = if (i 0).val = 1 then (2 : EReal) else a i + (1 : EReal) := by
  show Host.scatter dims (fun _ b => b) a row ones i + Ideal.ofBits .f32 0x3F800000#32 = _
  rw [scattered, Idealize.ShloMosaic.Ideal.ofBits_one_f32]
  split
  · exact one_add_one_eq_two
  · rfl

end Cert.Proof.RowOne

end
-- ==== Proof.Values.lean ====
/-
  The kernel's result and the reference's are the same array over the extended reals: at row `r`, column `c`, the flat
  result's element is number `256 r + c`, so elements 256 to 511 are row 1, where both are 2; elsewhere both are the
  argument's entry and 1.
-/
module

public import proofs.«01_k».proof.Proof.Launch
public import proofs.«01_k».proof.Proof.Ref

@[expose] public section

noncomputable section

namespace Cert.Proof.AddOne

open Cert.KernelIdeal Cert.KernelIdeal.Gen Idealize.ShloMosaic

/-- The bits of 2.0 denote 2. -/
theorem two_eq : (two : Ideal .f32) = (2 : EReal) := by
  show Ideal.ofBits .f32 0x40000000#32 = (2 : EReal)
  simp [Ideal.ofBits, Ideal.ieee, -EReal.coe_mul]
  norm_num
  rfl

/-- The number of the flat element that entry `i` is. -/
theorem flat_number (i : S65536x256.Idx) : (Shape.reshapeEquiv shapeCasts_S16777216_S65536x256 i 0).val = 256 * (i 0).val + (i 1).val := by
  have e := Shape.rowMajor_reshapeEquiv shapeCasts_S16777216_S65536x256 i
  rw [Shape.rowMajor_val_one, Shape.rowMajor_val_two] at e
  rw [e]
  show (i 0).val * 256 + (i 1).val = _
  omega

/-- Where memories agree on the argument, the kernel's result is what the reference computes. -/
theorem result_eq (m : (ℓ : Loc nD τ sig) → Buf (Elt Ideal) ℓ) (d : Dev nD) : result m d = RowOne.value (m (aLoc d)) := by
  funext i
  rw [RowOne.value_entry]
  have hc : (i 1).val < 256 := (i 1).isLt
  have back : flatArg m d (Shape.reshapeEquiv shapeCasts_S16777216_S65536x256 i) = m (aLoc d) i :=
    congrArg (m (aLoc d)) ((Shape.reshapeEquiv_reshapeEquiv shapeCasts_S65536x256_S16777216 shapeCasts_S16777216_S65536x256 i).trans (Shape.reshapeEquiv_self _ i))
  show (if 256 ≤ (Shape.reshapeEquiv shapeCasts_S16777216_S65536x256 i 0).val ∧ (Shape.reshapeEquiv shapeCasts_S16777216_S65536x256 i 0).val < 512
    then (two : Ideal .f32) else inc (flatArg m d (Shape.reshapeEquiv shapeCasts_S16777216_S65536x256 i))) = _
  rw [flat_number, back]
  by_cases h : (i 0).val = 1
  · rw [if_pos (by omega), if_pos h]; exact two_eq
  · rw [if_neg (by omega), if_neg h]
    exact congrArg (HAdd.hAdd (show EReal from m (aLoc d) i)) Ideal.ofBits_one_f32

end Cert.Proof.AddOne

end
-- ==== Proof.lean ====
/- The five claims: the two frames of the kernel program, the reference's frame, that the idealization rewrote nothing,
   and that the kernel's result is the reference's over the extended reals. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel program runs to the end, its argument unchanged, every counter at zero, on bits. -/
theorem frame_kernel : Cert.quiescent_Kernel := fun m ρ _ =>
  (θ_run Cert.KernelIdeal.defs _ _).mono (fun _ h => ⟨fun c => (h.1 c).1, h.2⟩) (AddOne.run_main (F := Bits) m ρ)

/-- So does it over the extended reals. -/
theorem frame_ideal : Cert.quiescent_KernelIdeal := fun m ρ _ =>
  (θ_run Cert.KernelIdeal.defs _ _).mono (fun _ h => ⟨fun c => (h.1 c).1, h.2⟩) (AddOne.run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, entry by entry over the extended reals. -/
theorem same_result : Cert.algebraic_KernelIdeal_ReferenceIdeal := by
  intro m ρ m' ρ' _ agree
  refine ⟨fun c => AddOne.result m c,
    (θ_run Cert.KernelIdeal.defs _ _).mono (fun _ h c => ⟨(h.1 c).2, (h.1 c).1⟩) (AddOne.run_main (F := Ideal) m ρ),
    (θ_run Cert.ReferenceIdeal.defs _ _).mono (fun r h c => ⟨(h c).1.trans ?_, (h c).2⟩) (Cert.ReferenceIdeal.Value.run (F := Ideal) m' ρ')⟩
  refine Eq.trans ?_ (AddOne.result_eq m c).symm
  exact congrArg RowOne.value (agree c)

/-- The certificate's claim. -/
theorem claim : Cert.Claim := ⟨Cert.Kernel.Gen.facts, Cert.KernelIdeal.Gen.facts, Cert.ReferenceIdeal.Gen.facts,
  frame_kernel, frame_ideal, frame_reference, trivial, same_result⟩

end Cert.Proof

end
